-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x512x512 : Shape := ⟨4, ![8, 16, 512, 512]⟩
abbrev S8x1x512x512 : Shape := ⟨4, ![8, 1, 512, 512]⟩
abbrev S1x16x128x512 : Shape := ⟨4, ![1, 16, 128, 512]⟩
abbrev S1x1x128x512 : Shape := ⟨4, ![1, 1, 128, 512]⟩
abbrev S16x128x512 : Shape := ⟨3, ![16, 128, 512]⟩
abbrev S128x512 : Shape := ⟨2, ![128, 512]⟩
abbrev S1x128x512 : Shape := ⟨3, ![1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x16x512x512, .f32⟩
  | .hbm, ⟨1, _⟩ => ⟨S8x1x512x512, .i32⟩
  | .local _ .vmem, ⟨0, _⟩ => ⟨S1x16x128x512, .f32⟩
  | .local _ .vmem, ⟨1, _⟩ => ⟨S1x16x128x512, .f32⟩
  | .local _ .vmem, ⟨2, _⟩ => ⟨S1x1x128x512, .i32⟩
  | .local _ .vmem, ⟨3, _⟩ => ⟨S1x1x128x512, .i32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x16x512x512 : Shape := ⟨4, ![8, 16, 512, 512]⟩
abbrev S8x512x512x16 : Shape := ⟨4, ![8, 512, 512, 16]⟩
abbrev S_ : Shape := ⟨0, ![]⟩
abbrev S1 : Shape := ⟨1, ![1]⟩
abbrev S2 : Shape := ⟨1, ![2]⟩
abbrev S8x512x512 : Shape := ⟨3, ![8, 512, 512]⟩
abbrev S8x1x512x512 : Shape := ⟨4, ![8, 1, 512, 512]⟩

abbrev nBuf : Space → Nat
  | .hbm => 522
  | .vmem => 0
  | .smem => 0
  | _ => 0

abbrev hbmTy0_0 (i : Nat) : BufTy := match i % 128 with
  | 0 => ⟨S8x16x512x512, .f32⟩
  | 1 => ⟨S8x512x512x16, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S8x16x512x512, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S1, .i32⟩
  | 122 => ⟨S_, .i32⟩
  | 123 => ⟨S1, .i32⟩
  | 124 => ⟨S_, .i32⟩
  | 125 => ⟨S8x512x512x16, .i64⟩
  | 126 => ⟨S8x512x512x16, .i64⟩
  | 127 => ⟨S8x512x512x16, .i64⟩
  | _ => ⟨S8x16x512x512, .f32⟩

abbrev hbmTy0_2 (i : Nat) : BufTy := match i % 128 with
  | 0 => ⟨S8x512x512x16, .i64⟩
  | 1 => ⟨S_, .i64⟩
  | 2 => ⟨S8x512x512x16, .i64⟩
  | 3 => ⟨S8x512x512x16, .i64⟩
  | 4 => ⟨S_, .i64⟩
  | 5 => ⟨S8x512x512x16, .i64⟩
  | 6 => ⟨S8x512x512x16, .i64⟩
  | 7 => ⟨S_, .i64⟩
  | 8 => ⟨S8x512x512x16, .i64⟩
  | 9 => ⟨S8x512x512x16, .i64⟩
  | 10 => ⟨S_, .i64⟩
  | 11 => ⟨S8x512x512x16, .i64⟩
  | 12 => ⟨S8x512x512x16, .i64⟩
  | 13 => ⟨S8x512x512x16, .i64⟩
  | 14 => ⟨S8x512x512x16, .i64⟩
  | 15 => ⟨S8x512x512x16, .i64⟩
  | 16 => ⟨S_, .i64⟩
  | 17 => ⟨S8x512x512x16, .i64⟩
  | 18 => ⟨S8x512x512x16, .i64⟩
  | 19 => ⟨S8x512x512x16, .i32⟩
  | 20 => ⟨S8x512x512x16, .i32⟩
  | 21 => ⟨S_, .i32⟩
  | 22 => ⟨S_, .i32⟩
  | 23 => ⟨S_, .i32⟩
  | 24 => ⟨S8x512x512x16, .i32⟩
  | 25 => ⟨S8x512x512x16, .i32⟩
  | 26 => ⟨S8x512x512x16, .i32⟩
  | 27 => ⟨S8x512x512x16, .i32⟩
  | 28 => ⟨S8x512x512x16, .i32⟩
  | 29 => ⟨S_, .i32⟩
  | 30 => ⟨S8x512x512x16, .i32⟩
  | 31 => ⟨S8x512x512x16, .i32⟩
  | 32 => ⟨S_, .i32⟩
  | 33 => ⟨S8x512x512x16, .i32⟩
  | 34 => ⟨S8x512x512x16, .i32⟩
  | 35 => ⟨S8x512x512x16, .i32⟩
  | 36 => ⟨S8x512x512x16, .i32⟩
  | 37 => ⟨S8x512x512x16, .i32⟩
  | 38 => ⟨S_, .i32⟩
  | 39 => ⟨S8x512x512x16, .i32⟩
  | 40 => ⟨S8x512x512x16, .i32⟩
  | 41 => ⟨S_, .i32⟩
  | 42 => ⟨S8x512x512x16, .i32⟩
  | 43 => ⟨S8x512x512x16, .i32⟩
  | 44 => ⟨S8x512x512x16, .i32⟩
  | 45 => ⟨S8x512x512x16, .i32⟩
  | 46 => ⟨S8x512x512x16, .i32⟩
  | 47 => ⟨S_, .i32⟩
  | 48 => ⟨S8x512x512x16, .i32⟩
  | 49 => ⟨S8x512x512x16, .i32⟩
  | 50 => ⟨S_, .i32⟩
  | 51 => ⟨S8x512x512x16, .i32⟩
  | 52 => ⟨S8x512x512x16, .i32⟩
  | 53 => ⟨S8x512x512x16, .i32⟩
  | 54 => ⟨S8x512x512x16, .i32⟩
  | 55 => ⟨S8x512x512x16, .i32⟩
  | 56 => ⟨S_, .i32⟩
  | 57 => ⟨S8x512x512x16, .i32⟩
  | 58 => ⟨S8x512x512x16, .i32⟩
  | 59 => ⟨S_, .i32⟩
  | 60 => ⟨S8x512x512x16, .i32⟩
  | 61 => ⟨S8x512x512x16, .i32⟩
  | 62 => ⟨S8x512x512x16, .i32⟩
  | 63 => ⟨S8x512x512x16, .i32⟩
  | 64 => ⟨S8x512x512x16, .i32⟩
  | 65 => ⟨S8x512x512x16, .i32⟩
  | 66 => ⟨S8x512x512x16, .i32⟩
  | 67 => ⟨S8x512x512x16, .i32⟩
  | 68 => ⟨S_, .i32⟩
  | 69 => ⟨S8x512x512x16, .i32⟩
  | 70 => ⟨S8x512x512x16, .i32⟩
  | 71 => ⟨S8x512x512x16, .i32⟩
  | 72 => ⟨S_, .i32⟩
  | 73 => ⟨S8x512x512x16, .i32⟩
  | 74 => ⟨S8x512x512x16, .i32⟩
  | 75 => ⟨S_, .i32⟩
  | 76 => ⟨S8x512x512x16, .i32⟩
  | 77 => ⟨S8x512x512x16, .i32⟩
  | 78 => ⟨S8x512x512x16, .i32⟩
  | 79 => ⟨S8x512x512x16, .i32⟩
  | 80 => ⟨S8x512x512x16, .i32⟩
  | 81 => ⟨S_, .i32⟩
  | 82 => ⟨S8x512x512x16, .i32⟩
  | 83 => ⟨S8x512x512x16, .i32⟩
  | 84 => ⟨S_, .i32⟩
  | 85 => ⟨S8x512x512x16, .i32⟩
  | 86 => ⟨S8x512x512x16, .i32⟩
  | 87 => ⟨S8x512x512x16, .i32⟩
  | 88 => ⟨S8x512x512x16, .i32⟩
  | 89 => ⟨S8x512x512x16, .i32⟩
  | 90 => ⟨S_, .i32⟩
  | 91 => ⟨S8x512x512x16, .i32⟩
  | 92 => ⟨S8x512x512x16, .i32⟩
  | 93 => ⟨S_, .i32⟩
  | 94 => ⟨S8x512x512x16, .i32⟩
  | 95 => ⟨S8x512x512x16, .i32⟩
  | 96 => ⟨S8x512x512x16, .i32⟩
  | 97 => ⟨S8x512x512x16, .i32⟩
  | 98 => ⟨S8x512x512x16, .i32⟩
  | 99 => ⟨S_, .i32⟩
  | 100 => ⟨S8x512x512x16, .i32⟩
  | 101 => ⟨S8x512x512x16, .i32⟩
  | 102 => ⟨S_, .i32⟩
  | 103 => ⟨S8x512x512x16, .i32⟩
  | 104 => ⟨S8x512x512x16, .i32⟩
  | 105 => ⟨S8x512x512x16, .i32⟩
  | 106 => ⟨S8x512x512x16, .i32⟩
  | 107 => ⟨S8x512x512x16, .i32⟩
  | 108 => ⟨S8x512x512x16, .i32⟩
  | 109 => ⟨S8x512x512x16, .i32⟩
  | 110 => ⟨S8x512x512x16, .i32⟩
  | 111 => ⟨S_, .i32⟩
  | 112 => ⟨S8x512x512x16, .i32⟩
  | 113 => ⟨S8x512x512x16, .i32⟩
  | 114 => ⟨S8x512x512x16, .i32⟩
  | 115 => ⟨S_, .i32⟩
  | 116 => ⟨S8x512x512x16, .i32⟩
  | 117 => ⟨S8x512x512x16, .i32⟩
  | 118 => ⟨S_, .i32⟩
  | 119 => ⟨S8x512x512x16, .i32⟩
  | 120 => ⟨S8x512x512x16, .i32⟩
  | 121 => ⟨S8x512x512x16, .i32⟩
  | 122 => ⟨S8x512x512x16, .i32⟩
  | 123 => ⟨S8x512x512x16, .i32⟩
  | 124 => ⟨S_, .i32⟩
  | 125 => ⟨S8x512x512x16, .i32⟩
  | 126 => ⟨S8x512x512x16, .i32⟩
  | 127 => ⟨S_, .i32⟩
  | _ => ⟨S8x16x512x512, .f32⟩

abbrev hbmTy0_3 (i : Nat) : BufTy := match i % 128 with
  | 0 => ⟨S8x512x512x16, .i32⟩
  | 1 => ⟨S8x512x512x16, .i32⟩
  | 2 => ⟨S8x512x512x16, .i32⟩
  | 3 => ⟨S8x512x512x16, .i32⟩
  | 4 => ⟨S8x512x512x16, .i32⟩
  | 5 => ⟨S_, .i32⟩
  | 6 => ⟨S8x512x512x16, .i32⟩
  | 7 => ⟨S8x512x512x16, .i32⟩
  | 8 => ⟨S_, .i32⟩
  | 9 => ⟨S8x512x512x16, .i32⟩
  | 10 => ⟨S8x512x512x16, .i32⟩
  | 11 => ⟨S8x512x512x16, .i32⟩
  | 12 => ⟨S8x512x512x16, .i32⟩
  | 13 => ⟨S8x512x512x16, .i32⟩
  | 14 => ⟨S_, .i32⟩
  | 15 => ⟨S8x512x512x16, .i32⟩
  | 16 => ⟨S8x512x512x16, .i32⟩
  | 17 => ⟨S_, .i32⟩
  | 18 => ⟨S8x512x512x16, .i32⟩
  | 19 => ⟨S8x512x512x16, .i32⟩
  | 20 => ⟨S8x512x512x16, .i32⟩
  | 21 => ⟨S8x512x512x16, .i32⟩
  | 22 => ⟨S8x512x512x16, .i32⟩
  | 23 => ⟨S8x512x512x16, .i32⟩
  | 24 => ⟨S8x512x512x16, .i32⟩
  | 25 => ⟨S8x512x512x16, .i32⟩
  | 26 => ⟨S_, .i32⟩
  | 27 => ⟨S8x512x512x16, .i32⟩
  | 28 => ⟨S8x512x512x16, .i32⟩
  | 29 => ⟨S8x512x512x16, .i32⟩
  | 30 => ⟨S_, .i32⟩
  | 31 => ⟨S8x512x512x16, .i32⟩
  | 32 => ⟨S8x512x512x16, .i32⟩
  | 33 => ⟨S_, .i32⟩
  | 34 => ⟨S8x512x512x16, .i32⟩
  | 35 => ⟨S8x512x512x16, .i32⟩
  | 36 => ⟨S8x512x512x16, .i32⟩
  | 37 => ⟨S8x512x512x16, .i32⟩
  | 38 => ⟨S8x512x512x16, .i32⟩
  | 39 => ⟨S_, .i32⟩
  | 40 => ⟨S8x512x512x16, .i32⟩
  | 41 => ⟨S8x512x512x16, .i32⟩
  | 42 => ⟨S_, .i32⟩
  | 43 => ⟨S8x512x512x16, .i32⟩
  | 44 => ⟨S8x512x512x16, .i32⟩
  | 45 => ⟨S8x512x512x16, .i32⟩
  | 46 => ⟨S8x512x512x16, .i32⟩
  | 47 => ⟨S8x512x512x16, .i32⟩
  | 48 => ⟨S_, .i32⟩
  | 49 => ⟨S8x512x512x16, .i32⟩
  | 50 => ⟨S8x512x512x16, .i32⟩
  | 51 => ⟨S_, .i32⟩
  | 52 => ⟨S8x512x512x16, .i32⟩
  | 53 => ⟨S8x512x512x16, .i32⟩
  | 54 => ⟨S8x512x512x16, .i32⟩
  | 55 => ⟨S8x512x512x16, .i32⟩
  | 56 => ⟨S8x512x512x16, .i32⟩
  | 57 => ⟨S_, .i32⟩
  | 58 => ⟨S8x512x512x16, .i32⟩
  | 59 => ⟨S8x512x512x16, .i32⟩
  | 60 => ⟨S_, .i32⟩
  | 61 => ⟨S8x512x512x16, .i32⟩
  | 62 => ⟨S8x512x512x16, .i32⟩
  | 63 => ⟨S8x512x512x16, .i32⟩
  | 64 => ⟨S8x512x512x16, .i32⟩
  | 65 => ⟨S8x512x512x16, .i32⟩
  | 66 => ⟨S8x512x512x16, .i32⟩
  | 67 => ⟨S8x512x512x16, .i32⟩
  | 68 => ⟨S8x512x512x16, .i32⟩
  | 69 => ⟨S_, .i32⟩
  | 70 => ⟨S8x512x512x16, .i32⟩
  | 71 => ⟨S8x512x512x16, .i32⟩
  | 72 => ⟨S8x512x512x16, .i32⟩
  | 73 => ⟨S_, .i32⟩
  | 74 => ⟨S8x512x512x16, .i32⟩
  | 75 => ⟨S8x512x512x16, .i32⟩
  | 76 => ⟨S_, .i32⟩
  | 77 => ⟨S8x512x512x16, .i32⟩
  | 78 => ⟨S8x512x512x16, .i32⟩
  | 79 => ⟨S8x512x512x16, .i32⟩
  | 80 => ⟨S8x512x512x16, .i32⟩
  | 81 => ⟨S8x512x512x16, .i32⟩
  | 82 => ⟨S_, .i32⟩
  | 83 => ⟨S8x512x512x16, .i32⟩
  | 84 => ⟨S8x512x512x16, .i32⟩
  | 85 => ⟨S_, .i32⟩
  | 86 => ⟨S8x512x512x16, .i32⟩
  | 87 => ⟨S8x512x512x16, .i32⟩
  | 88 => ⟨S8x512x512x16, .i32⟩
  | 89 => ⟨S8x512x512x16, .i32⟩
  | 90 => ⟨S8x512x512x16, .i32⟩
  | 91 => ⟨S_, .i32⟩
  | 92 => ⟨S8x512x512x16, .i32⟩
  | 93 => ⟨S8x512x512x16, .i32⟩
  | 94 => ⟨S_, .i32⟩
  | 95 => ⟨S8x512x512x16, .i32⟩
  | 96 => ⟨S8x512x512x16, .i32⟩
  | 97 => ⟨S8x512x512x16, .i32⟩
  | 98 => ⟨S8x512x512x16, .i32⟩
  | 99 => ⟨S8x512x512x16, .i32⟩
  | 100 => ⟨S_, .i32⟩
  | 101 => ⟨S8x512x512x16, .i32⟩
  | 102 => ⟨S8x512x512x16, .i32⟩
  | 103 => ⟨S_, .i32⟩
  | 104 => ⟨S8x512x512x16, .i32⟩
  | 105 => ⟨S8x512x512x16, .i32⟩
  | 106 => ⟨S8x512x512x16, .i32⟩
  | 107 => ⟨S8x512x512x16, .i32⟩
  | 108 => ⟨S8x512x512x16, .i32⟩
  | 109 => ⟨S8x512x512x16, .i32⟩
  | 110 => ⟨S8x512x512x16, .i32⟩
  | 111 => ⟨S8x512x512x16, .i32⟩
  | 112 => ⟨S_, .i32⟩
  | 113 => ⟨S8x512x512x16, .i32⟩
  | 114 => ⟨S8x512x512x16, .i32⟩
  | 115 => ⟨S8x512x512x16, .i32⟩
  | 116 => ⟨S_, .i32⟩
  | 117 => ⟨S8x512x512x16, .i32⟩
  | 118 => ⟨S8x512x512x16, .i32⟩
  | 119 => ⟨S8x512x512x16, .i32⟩
  | 120 => ⟨S8x512x512x16, .f32⟩
  | 121 => ⟨S_, .f32⟩
  | 122 => ⟨S8x512x512x16, .f32⟩
  | 123 => ⟨S8x512x512x16, .f32⟩
  | 124 => ⟨S_, .f32⟩
  | 125 => ⟨S8x512x512x16, .f32⟩
  | 126 => ⟨S8x512x512x16, .f32⟩
  | 127 => ⟨S8x512x512x16, .f32⟩
  | _ => ⟨S8x16x512x512, .f32⟩

abbrev hbmTy0_4 (i : Nat) : BufTy := match i % 128 with
  | 0 => ⟨S8x512x512x16, .f32⟩
  | 1 => ⟨S8x512x512x16, .f32⟩
  | 2 => ⟨S8x512x512x16, .f32⟩
  | 3 => ⟨S8x512x512x16, .f32⟩
  | 4 => ⟨S8x512x512x16, .i32⟩
  | 5 => ⟨S_, .f32⟩
  | 6 => ⟨S_, .i32⟩
  | 7 => ⟨S8x512x512, .f32⟩
  | 8 => ⟨S8x512x512, .i32⟩
  | 9 => ⟨S8x1x512x512, .i32⟩
  | _ => ⟨S8x16x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v8 : Ref sig .tc := ⟨.hbm, 248, rfl⟩
abbrev main_v9 : Ref sig .tc := ⟨.hbm, 249, rfl⟩
abbrev main_v10 : Ref sig .tc := ⟨.hbm, 250, rfl⟩
abbrev main_v11 : Ref sig .tc := ⟨.hbm, 251, rfl⟩
abbrev main_v12 : Ref sig .tc := ⟨.hbm, 252, rfl⟩
abbrev main_v13 : Ref sig .tc := ⟨.hbm, 253, rfl⟩
abbrev main_v14 : Ref sig .tc := ⟨.hbm, 254, rfl⟩
abbrev main_v15 : Ref sig .tc := ⟨.hbm, 255, rfl⟩
abbrev main_v16 : Ref sig .tc := ⟨.hbm, 256, rfl⟩
abbrev main_c_3 : Ref sig .tc := ⟨.hbm, 257, rfl⟩
abbrev main_v17 : Ref sig .tc := ⟨.hbm, 258, rfl⟩
abbrev main_v18 : Ref sig .tc := ⟨.hbm, 259, rfl⟩
abbrev main_c_4 : Ref sig .tc := ⟨.hbm, 260, rfl⟩
abbrev main_v19 : Ref sig .tc := ⟨.hbm, 261, rfl⟩
abbrev main_v20 : Ref sig .tc := ⟨.hbm, 262, rfl⟩
abbrev main_c_5 : Ref sig .tc := ⟨.hbm, 263, rfl⟩
abbrev main_v21 : Ref sig .tc := ⟨.hbm, 264, rfl⟩
abbrev main_v22 : Ref sig .tc := ⟨.hbm, 265, rfl⟩
abbrev main_c_6 : Ref sig .tc := ⟨.hbm, 266, rfl⟩
abbrev main_v23 : Ref sig .tc := ⟨.hbm, 267, rfl⟩
abbrev main_v24 : Ref sig .tc := ⟨.hbm, 268, rfl⟩
abbrev main_v25 : Ref sig .tc := ⟨.hbm, 269, rfl⟩
abbrev main_v26 : Ref sig .tc := ⟨.hbm, 270, rfl⟩
abbrev main_v27 : Ref sig .tc := ⟨.hbm, 271, rfl⟩
abbrev main_c_7 : Ref sig .tc := ⟨.hbm, 272, rfl⟩
abbrev main_v28 : Ref sig .tc := ⟨.hbm, 273, rfl⟩
abbrev main_v29 : Ref sig .tc := ⟨.hbm, 274, rfl⟩
abbrev main_v30 : Ref sig .tc := ⟨.hbm, 275, rfl⟩
abbrev main_v31 : Ref sig .tc := ⟨.hbm, 276, rfl⟩
abbrev main_call1_v0 : Ref sig .tc := ⟨.hbm, 277, rfl⟩
abbrev main_call1_c : Ref sig .tc := ⟨.hbm, 278, rfl⟩
abbrev main_call1_v1 : Ref sig .tc := ⟨.hbm, 279, rfl⟩
abbrev main_call1_v2 : Ref sig .tc := ⟨.hbm, 280, rfl⟩
abbrev main_call1_v3 : Ref sig .tc := ⟨.hbm, 281, rfl⟩
abbrev main_call1_v4 : Ref sig .tc := ⟨.hbm, 282, rfl⟩
abbrev main_call1_v5 : Ref sig .tc := ⟨.hbm, 283, rfl⟩
abbrev main_call1_v6 : Ref sig .tc := ⟨.hbm, 284, rfl⟩
abbrev main_call1_c_0 : Ref sig .tc := ⟨.hbm, 285, rfl⟩
abbrev main_call1_v7 : Ref sig .tc := ⟨.hbm, 286, rfl⟩
abbrev main_call1_v8 : Ref sig .tc := ⟨.hbm, 287, rfl⟩
abbrev main_call1_c_1 : Ref sig .tc := ⟨.hbm, 288, rfl⟩
abbrev main_call1_v9 : Ref sig .tc := ⟨.hbm, 289, rfl⟩
abbrev main_call1_v10 : Ref sig .tc := ⟨.hbm, 290, rfl⟩
abbrev main_call1_v11 : Ref sig .tc := ⟨.hbm, 291, rfl⟩
abbrev main_call1_v12 : Ref sig .tc := ⟨.hbm, 292, rfl⟩
abbrev main_call1_v13 : Ref sig .tc := ⟨.hbm, 293, rfl⟩
abbrev main_call1_c_2 : Ref sig .tc := ⟨.hbm, 294, rfl⟩
abbrev main_call1_v14 : Ref sig .tc := ⟨.hbm, 295, rfl⟩
abbrev main_call1_v15 : Ref sig .tc := ⟨.hbm, 296, rfl⟩
abbrev main_call1_c_3 : Ref sig .tc := ⟨.hbm, 297, rfl⟩
abbrev main_call1_v16 : Ref sig .tc := ⟨.hbm, 298, rfl⟩
abbrev main_call1_v17 : Ref sig .tc := ⟨.hbm, 299, rfl⟩
abbrev main_call1_v18 : Ref sig .tc := ⟨.hbm, 300, rfl⟩
abbrev main_call1_v19 : Ref sig .tc := ⟨.hbm, 301, rfl⟩
abbrev main_call1_v20 : Ref sig .tc := ⟨.hbm, 302, rfl⟩
abbrev main_call1_c_4 : Ref sig .tc := ⟨.hbm, 303, rfl⟩
abbrev main_call1_v21 : Ref sig .tc := ⟨.hbm, 304, rfl⟩
abbrev main_call1_v22 : Ref sig .tc := ⟨.hbm, 305, rfl⟩
abbrev main_call1_c_5 : Ref sig .tc := ⟨.hbm, 306, rfl⟩
abbrev main_call1_v23 : Ref sig .tc := ⟨.hbm, 307, rfl⟩
abbrev main_call1_v24 : Ref sig .tc := ⟨.hbm, 308, rfl⟩
abbrev main_call1_v25 : Ref sig .tc := ⟨.hbm, 309, rfl⟩
abbrev main_call1_v26 : Ref sig .tc := ⟨.hbm, 310, rfl⟩
abbrev main_call1_v27 : Ref sig .tc := ⟨.hbm, 311, rfl⟩
abbrev main_call1_c_6 : Ref sig .tc := ⟨.hbm, 312, rfl⟩
abbrev main_call1_v28 : Ref sig .tc := ⟨.hbm, 313, rfl⟩
abbrev main_call1_v29 : Ref sig .tc := ⟨.hbm, 314, rfl⟩
abbrev main_call1_c_7 : Ref sig .tc := ⟨.hbm, 315, rfl⟩
abbrev main_call1_v30 : Ref sig .tc := ⟨.hbm, 316, rfl⟩
abbrev main_call1_v31 : Ref sig .tc := ⟨.hbm, 317, rfl⟩
abbrev main_call1_v32 : Ref sig .tc := ⟨.hbm, 318, rfl⟩
abbrev main_call1_v33 : Ref sig .tc := ⟨.hbm, 319, rfl⟩
abbrev main_call1_v34 : Ref sig .tc := ⟨.hbm, 320, rfl⟩
abbrev main_call1_v35 : Ref sig .tc := ⟨.hbm, 321, rfl⟩
abbrev main_call1_v36 : Ref sig .tc := ⟨.hbm, 322, rfl⟩
abbrev main_call1_v37 : Ref sig .tc := ⟨.hbm, 323, rfl⟩
abbrev main_call1_c_8 : Ref sig .tc := ⟨.hbm, 324, rfl⟩
abbrev main_call1_v38 : Ref sig .tc := ⟨.hbm, 325, rfl⟩
abbrev main_call1_v39 : Ref sig .tc := ⟨.hbm, 326, rfl⟩
abbrev main_call1_v40 : Ref sig .tc := ⟨.hbm, 327, rfl⟩
abbrev main_call1_c_9 : Ref sig .tc := ⟨.hbm, 328, rfl⟩
abbrev main_call1_v41 : Ref sig .tc := ⟨.hbm, 329, rfl⟩
abbrev main_call1_v42 : Ref sig .tc := ⟨.hbm, 330, rfl⟩
abbrev main_call1_c_10 : Ref sig .tc := ⟨.hbm, 331, rfl⟩
abbrev main_call1_v43 : Ref sig .tc := ⟨.hbm, 332, rfl⟩
abbrev main_call1_v44 : Ref sig .tc := ⟨.hbm, 333, rfl⟩
abbrev main_call1_v45 : Ref sig .tc := ⟨.hbm, 334, rfl⟩
abbrev main_call1_v46 : Ref sig .tc := ⟨.hbm, 335, rfl⟩
abbrev main_call1_v47 : Ref sig .tc := ⟨.hbm, 336, rfl⟩
abbrev main_call1_c_11 : Ref sig .tc := ⟨.hbm, 337, rfl⟩
abbrev main_call1_v48 : Ref sig .tc := ⟨.hbm, 338, rfl⟩
abbrev main_call1_v49 : Ref sig .tc := ⟨.hbm, 339, rfl⟩
abbrev main_call1_c_12 : Ref sig .tc := ⟨.hbm, 340, rfl⟩
abbrev main_call1_v50 : Ref sig .tc := ⟨.hbm, 341, rfl⟩
abbrev main_call1_v51 : Ref sig .tc := ⟨.hbm, 342, rfl⟩
abbrev main_call1_v52 : Ref sig .tc := ⟨.hbm, 343, rfl⟩
abbrev main_call1_v53 : Ref sig .tc := ⟨.hbm, 344, rfl⟩
abbrev main_call1_v54 : Ref sig .tc := ⟨.hbm, 345, rfl⟩
abbrev main_call1_c_13 : Ref sig .tc := ⟨.hbm, 346, rfl⟩
abbrev main_call1_v55 : Ref sig .tc := ⟨.hbm, 347, rfl⟩
abbrev main_call1_v56 : Ref sig .tc := ⟨.hbm, 348, rfl⟩
abbrev main_call1_c_14 : Ref sig .tc := ⟨.hbm, 349, rfl⟩
abbrev main_call1_v57 : Ref sig .tc := ⟨.hbm, 350, rfl⟩
abbrev main_call1_v58 : Ref sig .tc := ⟨.hbm, 351, rfl⟩
abbrev main_call1_v59 : Ref sig .tc := ⟨.hbm, 352, rfl⟩
abbrev main_call1_v60 : Ref sig .tc := ⟨.hbm, 353, rfl⟩
abbrev main_call1_v61 : Ref sig .tc := ⟨.hbm, 354, rfl⟩
abbrev main_call1_c_15 : Ref sig .tc := ⟨.hbm, 355, rfl⟩
abbrev main_call1_v62 : Ref sig .tc := ⟨.hbm, 356, rfl⟩
abbrev main_call1_v63 : Ref sig .tc := ⟨.hbm, 357, rfl⟩
abbrev main_call1_c_16 : Ref sig .tc := ⟨.hbm, 358, rfl⟩
abbrev main_call1_v64 : Ref sig .tc := ⟨.hbm, 359, rfl⟩
abbrev main_call1_v65 : Ref sig .tc := ⟨.hbm, 360, rfl⟩
abbrev main_call1_v66 : Ref sig .tc := ⟨.hbm, 361, rfl⟩
abbrev main_call1_v67 : Ref sig .tc := ⟨.hbm, 362, rfl⟩
abbrev main_call1_v68 : Ref sig .tc := ⟨.hbm, 363, rfl⟩
abbrev main_call1_v69 : Ref sig .tc := ⟨.hbm, 364, rfl⟩
abbrev main_call1_v70 : Ref sig .tc := ⟨.hbm, 365, rfl⟩
abbrev main_call1_v71 : Ref sig .tc := ⟨.hbm, 366, rfl⟩
abbrev main_call1_c_17 : Ref sig .tc := ⟨.hbm, 367, rfl⟩
abbrev main_call1_v72 : Ref sig .tc := ⟨.hbm, 368, rfl⟩
abbrev main_call1_v73 : Ref sig .tc := ⟨.hbm, 369, rfl⟩
abbrev main_call1_v74 : Ref sig .tc := ⟨.hbm, 370, rfl⟩
abbrev main_call1_c_18 : Ref sig .tc := ⟨.hbm, 371, rfl⟩
abbrev main_call1_v75 : Ref sig .tc := ⟨.hbm, 372, rfl⟩
abbrev main_call1_v76 : Ref sig .tc := ⟨.hbm, 373, rfl⟩
abbrev main_call1_c_19 : Ref sig .tc := ⟨.hbm, 374, rfl⟩
abbrev main_call1_v77 : Ref sig .tc := ⟨.hbm, 375, rfl⟩
abbrev main_call1_v78 : Ref sig .tc := ⟨.hbm, 376, rfl⟩
abbrev main_call1_v79 : Ref sig .tc := ⟨.hbm, 377, rfl⟩
abbrev main_call1_v80 : Ref sig .tc := ⟨.hbm, 378, rfl⟩
abbrev main_call1_v81 : Ref sig .tc := ⟨.hbm, 379, rfl⟩
abbrev main_call1_c_20 : Ref sig .tc := ⟨.hbm, 380, rfl⟩
abbrev main_call1_v82 : Ref sig .tc := ⟨.hbm, 381, rfl⟩
abbrev main_call1_v83 : Ref sig .tc := ⟨.hbm, 382, rfl⟩
abbrev main_call1_c_21 : Ref sig .tc := ⟨.hbm, 383, rfl⟩
abbrev main_call1_v84 : Ref sig .tc := ⟨.hbm, 384, rfl⟩
abbrev main_call1_v85 : Ref sig .tc := ⟨.hbm, 385, rfl⟩
abbrev main_call1_v86 : Ref sig .tc := ⟨.hbm, 386, rfl⟩
abbrev main_call1_v87 : Ref sig .tc := ⟨.hbm, 387, rfl⟩
abbrev main_call1_v88 : Ref sig .tc := ⟨.hbm, 388, rfl⟩
abbrev main_call1_c_22 : Ref sig .tc := ⟨.hbm, 389, rfl⟩
abbrev main_call1_v89 : Ref sig .tc := ⟨.hbm, 390, rfl⟩
abbrev main_call1_v90 : Ref sig .tc := ⟨.hbm, 391, rfl⟩
abbrev main_call1_c_23 : Ref sig .tc := ⟨.hbm, 392, rfl⟩
abbrev main_call1_v91 : Ref sig .tc := ⟨.hbm, 393, rfl⟩
abbrev main_call1_v92 : Ref sig .tc := ⟨.hbm, 394, rfl⟩
abbrev main_call1_v93 : Ref sig .tc := ⟨.hbm, 395, rfl⟩
abbrev main_call1_v94 : Ref sig .tc := ⟨.hbm, 396, rfl⟩
abbrev main_call1_v95 : Ref sig .tc := ⟨.hbm, 397, rfl⟩
abbrev main_call1_c_24 : Ref sig .tc := ⟨.hbm, 398, rfl⟩
abbrev main_call1_v96 : Ref sig .tc := ⟨.hbm, 399, rfl⟩
abbrev main_call1_v97 : Ref sig .tc := ⟨.hbm, 400, rfl⟩
abbrev main_call1_c_25 : Ref sig .tc := ⟨.hbm, 401, rfl⟩
abbrev main_call1_v98 : Ref sig .tc := ⟨.hbm, 402, rfl⟩
abbrev main_call1_v99 : Ref sig .tc := ⟨.hbm, 403, rfl⟩
abbrev main_call1_v100 : Ref sig .tc := ⟨.hbm, 404, rfl⟩
abbrev main_call1_v101 : Ref sig .tc := ⟨.hbm, 405, rfl⟩
abbrev main_call1_v102 : Ref sig .tc := ⟨.hbm, 406, rfl⟩
abbrev main_call1_v103 : Ref sig .tc := ⟨.hbm, 407, rfl⟩
abbrev main_call1_v104 : Ref sig .tc := ⟨.hbm, 408, rfl⟩
abbrev main_call1_v105 : Ref sig .tc := ⟨.hbm, 409, rfl⟩
abbrev main_call1_c_26 : Ref sig .tc := ⟨.hbm, 410, rfl⟩
abbrev main_call1_v106 : Ref sig .tc := ⟨.hbm, 411, rfl⟩
abbrev main_call1_v107 : Ref sig .tc := ⟨.hbm, 412, rfl⟩
abbrev main_call1_v108 : Ref sig .tc := ⟨.hbm, 413, rfl⟩
abbrev main_call1_c_27 : Ref sig .tc := ⟨.hbm, 414, rfl⟩
abbrev main_call1_v109 : Ref sig .tc := ⟨.hbm, 415, rfl⟩
abbrev main_call1_v110 : Ref sig .tc := ⟨.hbm, 416, rfl⟩
abbrev main_call1_c_28 : Ref sig .tc := ⟨.hbm, 417, rfl⟩
abbrev main_call1_v111 : Ref sig .tc := ⟨.hbm, 418, rfl⟩
abbrev main_call1_v112 : Ref sig .tc := ⟨.hbm, 419, rfl⟩
abbrev main_call1_v113 : Ref sig .tc := ⟨.hbm, 420, rfl⟩
abbrev main_call1_v114 : Ref sig .tc := ⟨.hbm, 421, rfl⟩
abbrev main_call1_v115 : Ref sig .tc := ⟨.hbm, 422, rfl⟩
abbrev main_call1_c_29 : Ref sig .tc := ⟨.hbm, 423, rfl⟩
abbrev main_call1_v116 : Ref sig .tc := ⟨.hbm, 424, rfl⟩
abbrev main_call1_v117 : Ref sig .tc := ⟨.hbm, 425, rfl⟩
abbrev main_call1_c_30 : Ref sig .tc := ⟨.hbm, 426, rfl⟩
abbrev main_call1_v118 : Ref sig .tc := ⟨.hbm, 427, rfl⟩
abbrev main_call1_v119 : Ref sig .tc := ⟨.hbm, 428, rfl⟩
abbrev main_call1_v120 : Ref sig .tc := ⟨.hbm, 429, rfl⟩
abbrev main_call1_v121 : Ref sig .tc := ⟨.hbm, 430, rfl⟩
abbrev main_call1_v122 : Ref sig .tc := ⟨.hbm, 431, rfl⟩
abbrev main_call1_c_31 : Ref sig .tc := ⟨.hbm, 432, rfl⟩
abbrev main_call1_v123 : Ref sig .tc := ⟨.hbm, 433, rfl⟩
abbrev main_call1_v124 : Ref sig .tc := ⟨.hbm, 434, rfl⟩
abbrev main_call1_c_32 : Ref sig .tc := ⟨.hbm, 435, rfl⟩
abbrev main_call1_v125 : Ref sig .tc := ⟨.hbm, 436, rfl⟩
abbrev main_call1_v126 : Ref sig .tc := ⟨.hbm, 437, rfl⟩
abbrev main_call1_v127 : Ref sig .tc := ⟨.hbm, 438, rfl⟩
abbrev main_call1_v128 : Ref sig .tc := ⟨.hbm, 439, rfl⟩
abbrev main_call1_v129 : Ref sig .tc := ⟨.hbm, 440, rfl⟩
abbrev main_call1_c_33 : Ref sig .tc := ⟨.hbm, 441, rfl⟩
abbrev main_call1_v130 : Ref sig .tc := ⟨.hbm, 442, rfl⟩
abbrev main_call1_v131 : Ref sig .tc := ⟨.hbm, 443, rfl⟩
abbrev main_call1_c_34 : Ref sig .tc := ⟨.hbm, 444, rfl⟩
abbrev main_call1_v132 : Ref sig .tc := ⟨.hbm, 445, rfl⟩
abbrev main_call1_v133 : Ref sig .tc := ⟨.hbm, 446, rfl⟩
abbrev main_call1_v134 : Ref sig .tc := ⟨.hbm, 447, rfl⟩
abbrev main_call1_v135 : Ref sig .tc := ⟨.hbm, 448, rfl⟩
abbrev main_call1_v136 : Ref sig .tc := ⟨.hbm, 449, rfl⟩
abbrev main_call1_v137 : Ref sig .tc := ⟨.hbm, 450, rfl⟩
abbrev main_call1_v138 : Ref sig .tc := ⟨.hbm, 451, rfl⟩
abbrev main_call1_v139 : Ref sig .tc := ⟨.hbm, 452, rfl⟩
abbrev main_call1_c_35 : Ref sig .tc := ⟨.hbm, 453, rfl⟩
abbrev main_call1_v140 : Ref sig .tc := ⟨.hbm, 454, rfl⟩
abbrev main_call1_v141 : Ref sig .tc := ⟨.hbm, 455, rfl⟩
abbrev main_call1_v142 : Ref sig .tc := ⟨.hbm, 456, rfl⟩
abbrev main_call1_c_36 : Ref sig .tc := ⟨.hbm, 457, rfl⟩
abbrev main_call1_v143 : Ref sig .tc := ⟨.hbm, 458, rfl⟩
abbrev main_call1_v144 : Ref sig .tc := ⟨.hbm, 459, rfl⟩
abbrev main_call1_c_37 : Ref sig .tc := ⟨.hbm, 460, rfl⟩
abbrev main_call1_v145 : Ref sig .tc := ⟨.hbm, 461, rfl⟩
abbrev main_call1_v146 : Ref sig .tc := ⟨.hbm, 462, rfl⟩
abbrev main_call1_v147 : Ref sig .tc := ⟨.hbm, 463, rfl⟩
abbrev main_call1_v148 : Ref sig .tc := ⟨.hbm, 464, rfl⟩
abbrev main_call1_v149 : Ref sig .tc := ⟨.hbm, 465, rfl⟩
abbrev main_call1_c_38 : Ref sig .tc := ⟨.hbm, 466, rfl⟩
abbrev main_call1_v150 : Ref sig .tc := ⟨.hbm, 467, rfl⟩
abbrev main_call1_v151 : Ref sig .tc := ⟨.hbm, 468, rfl⟩
abbrev main_call1_c_39 : Ref sig .tc := ⟨.hbm, 469, rfl⟩
abbrev main_call1_v152 : Ref sig .tc := ⟨.hbm, 470, rfl⟩
abbrev main_call1_v153 : Ref sig .tc := ⟨.hbm, 471, rfl⟩
abbrev main_call1_v154 : Ref sig .tc := ⟨.hbm, 472, rfl⟩
abbrev main_call1_v155 : Ref sig .tc := ⟨.hbm, 473, rfl⟩
abbrev main_call1_v156 : Ref sig .tc := ⟨.hbm, 474, rfl⟩
abbrev main_call1_c_40 : Ref sig .tc := ⟨.hbm, 475, rfl⟩
abbrev main_call1_v157 : Ref sig .tc := ⟨.hbm, 476, rfl⟩
abbrev main_call1_v158 : Ref sig .tc := ⟨.hbm, 477, rfl⟩
abbrev main_call1_c_41 : Ref sig .tc := ⟨.hbm, 478, rfl⟩
abbrev main_call1_v159 : Ref sig .tc := ⟨.hbm, 479, rfl⟩
abbrev main_call1_v160 : Ref sig .tc := ⟨.hbm, 480, rfl⟩
abbrev main_call1_v161 : Ref sig .tc := ⟨.hbm, 481, rfl⟩
abbrev main_call1_v162 : Ref sig .tc := ⟨.hbm, 482, rfl⟩
abbrev main_call1_v163 : Ref sig .tc := ⟨.hbm, 483, rfl⟩
abbrev main_call1_c_42 : Ref sig .tc := ⟨.hbm, 484, rfl⟩
abbrev main_call1_v164 : Ref sig .tc := ⟨.hbm, 485, rfl⟩
abbrev main_call1_v165 : Ref sig .tc := ⟨.hbm, 486, rfl⟩
abbrev main_call1_c_43 : Ref sig .tc := ⟨.hbm, 487, rfl⟩
abbrev main_call1_v166 : Ref sig .tc := ⟨.hbm, 488, rfl⟩
abbrev main_call1_v167 : Ref sig .tc := ⟨.hbm, 489, rfl⟩
abbrev main_call1_v168 : Ref sig .tc := ⟨.hbm, 490, rfl⟩
abbrev main_call1_v169 : Ref sig .tc := ⟨.hbm, 491, rfl⟩
abbrev main_call1_v170 : Ref sig .tc := ⟨.hbm, 492, rfl⟩
abbrev main_v32_0 : Ref sig .tc := ⟨.hbm, 493, rfl⟩
abbrev main_call1_v172 : Ref sig .tc := ⟨.hbm, 494, rfl⟩
abbrev main_call1_v173 : Ref sig .tc := ⟨.hbm, 495, rfl⟩
abbrev main_call1_c_44 : Ref sig .tc := ⟨.hbm, 496, rfl⟩
abbrev main_call1_v174 : Ref sig .tc := ⟨.hbm, 497, rfl⟩
abbrev main_v32_1 : Ref sig .tc := ⟨.hbm, 498, rfl⟩
abbrev main_v33 : Ref sig .tc := ⟨.hbm, 499, rfl⟩
abbrev main_c_8 : Ref sig .tc := ⟨.hbm, 500, rfl⟩
abbrev main_v34 : Ref sig .tc := ⟨.hbm, 501, rfl⟩
abbrev main_v35 : Ref sig .tc := ⟨.hbm, 502, rfl⟩
abbrev main_v36 : Ref sig .tc := ⟨.hbm, 503, rfl⟩
abbrev main_v37 : Ref sig .tc := ⟨.hbm, 504, rfl⟩
abbrev main_cst : Ref sig .tc := ⟨.hbm, 505, rfl⟩
abbrev main_v38 : Ref sig .tc := ⟨.hbm, 506, rfl⟩
abbrev main_v39 : Ref sig .tc := ⟨.hbm, 507, rfl⟩
abbrev main_cst_9 : Ref sig .tc := ⟨.hbm, 508, rfl⟩
abbrev main_v40 : Ref sig .tc := ⟨.hbm, 509, rfl⟩
abbrev main_v41 : Ref sig .tc := ⟨.hbm, 510, rfl⟩
abbrev main_v42 : Ref sig .tc := ⟨.hbm, 511, rfl⟩
abbrev main_v43 : Ref sig .tc := ⟨.hbm, 512, rfl⟩
abbrev main_v44 : Ref sig .tc := ⟨.hbm, 513, rfl⟩
abbrev main_v45 : Ref sig .tc := ⟨.hbm, 514, rfl⟩
abbrev main_v46 : Ref sig .tc := ⟨.hbm, 515, rfl⟩
abbrev main_call2_v0 : Ref sig .tc := ⟨.hbm, 516, rfl⟩
abbrev main_call2_cst : Ref sig .tc := ⟨.hbm, 517, rfl⟩
abbrev main_call2_c : Ref sig .tc := ⟨.hbm, 518, rfl⟩
abbrev main_call2_v1_0 : Ref sig .tc := ⟨.hbm, 519, rfl⟩
abbrev main_v47 : Ref sig .tc := ⟨.hbm, 520, rfl⟩
abbrev main_v48 : Ref sig .tc := ⟨.hbm, 521, rfl⟩

abbrev nD : Nat := 1
abbrev τ : Topo := Topo.v7x

variable {F : FTy → Type} [FloatOps F]
-- ==== Proof.Sampling.Lines.lean ====
/- The reference is a straight line of host operations, printed in pieces that call one another. Here each piece is read
   as the list of its operations. -/
module

public import proofs.«01_k».proof.Proof.Gen.ReferenceIdeal
public import Idealize.ShloMosaic.Lib.Claim
public import Idealize.ShloMosaic.Lib.StableHlo.RunRead

@[expose] public section

noncomputable section

namespace Cert.ReferenceIdeal.Line

open Idealize.SL.Sem Idealize.ShloMosaic Idealize.ShloMosaic.StableHlo

section
variable {nD : Nat} {τ : Topo} {sig : RefSig} {Val : EltTy → Type} {Λ : Labels}

/-- An operation that touches TensorCore buffers only and allocates none. -/
def Plain (op : HloOp τ sig Val) : Prop := op.bufs ⊆ tcRefs τ sig ∧ op.fresh = ∅

/-- `p` is the line of the operations `l`, each of them plain. -/
def Good (p : Prog (TpuEff nD τ sig Val Λ .tc) PUnit) (l : List (HloOp τ sig Val)) : Prop :=
  IsSeq p l ∧ ∀ op ∈ l, Plain op

/-- The empty line. -/
theorem nil : Good (nD := nD) (Λ := Λ) (pure ⟨⟩ : Prog (TpuEff nD τ sig Val Λ .tc) PUnit) ([] : List (HloOp τ sig Val)) :=
  ⟨IsSeq.nil, nofun⟩

/-- One operation by itself is the line of that operation. -/
theorem last {op : HloOp τ sig Val} (h : Plain op) :
    Good (nD := nD) (Λ := Λ) (hlo rfl op fun _ => .ret (⟨⟩ : PUnit)) [op] :=
  ⟨rfl, fun _ ho => List.mem_singleton.mp ho ▸ h⟩

/-- An operation before a line. -/
theorem cons {op : HloOp τ sig Val} {k : Prog (TpuEff nD τ sig Val Λ .tc) PUnit} {l : List (HloOp τ sig Val)}
    (h : Plain op) (hl : Good k l) : Good ((hlo rfl op fun _ => .ret (⟨⟩ : PUnit)) >>= fun _ => k) (op :: l) :=
  ⟨IsSeq.cons hl.1, fun o ho => (List.mem_cons.mp ho).elim (fun e => e ▸ h) (hl.2 o)⟩

/-- A line followed by a line is the line of both. -/
theorem append {p k : Prog (TpuEff nD τ sig Val Λ .tc) PUnit} {l₁ l₂ : List (HloOp τ sig Val)}
    (h₁ : Good p l₁) (h₂ : Good k l₂) : Good (p >>= fun _ => k) (l₁ ++ l₂) := by
  refine ⟨?_, fun o ho => (List.mem_append.mp ho).elim (h₁.2 o) (h₂.2 o)⟩
  have e₁ : p = seq l₁ := h₁.1
  have e₂ : k = seq l₂ := h₂.1
  unfold IsSeq
  rw [e₁, e₂, seq_append]

/-- `cons`, where the line is spelled as a first stretch and what follows it. -/
theorem before {op : HloOp τ sig Val} {k : Prog (TpuEff nD τ sig Val Λ .tc) PUnit} {l r : List (HloOp τ sig Val)}
    (h : Plain op) (hl : Good k (l ++ r)) : Good ((hlo rfl op fun _ => .ret (⟨⟩ : PUnit)) >>= fun _ => k) ((op :: l) ++ r) :=
  cons h hl

/-- The end of a first stretch. -/
theorem stop {k : Prog (TpuEff nD τ sig Val Λ .tc) PUnit} {r : List (HloOp τ sig Val)} (h : Good k r) : Good k ([] ++ r) := h
end

variable {F : FTy → Type} [FloatOps F]

/-- A program with the list of its operations. -/
abbrev Lined (p : Prog (TpuEff nD τ sig (Elt F) (Pipeline.Sig Λ₀ (Fin 0) fun p => (pcfgs (F := F) p).Adm) .tc) PUnit) :=
  {l : List (HloOp τ sig (Elt F)) // Good p l}

section
variable (a0 a1 : TRef sig ⟨S_, .i32⟩)

section
variable (a2 a3 : TRef sig ⟨S1, .i32⟩) (φ : fn_threefry2x32.Bufs)

/-- The hash of one counter, first quarter of its text. -/
def one0 : Lined (fn_threefry2x32.body_part0 (F := F) a0 a1 a2 a3 φ) := by
  apply Subtype.mk; unfold fn_threefry2x32.body_part0
  repeat (first | exact last ⟨by simp, rfl⟩ | exact nil | (apply cons; focus exact ⟨by simp, rfl⟩))

/-- The second quarter. -/
def one1 : Lined (fn_threefry2x32.body_part1 (F := F) a0 a1 a2 a3 φ) := by
  apply Subtype.mk; unfold fn_threefry2x32.body_part1
  repeat (first | exact last ⟨by simp, rfl⟩ | exact nil | (apply cons; focus exact ⟨by simp, rfl⟩))

/-- The third quarter. -/
def one2 : Lined (fn_threefry2x32.body_part2 (F := F) a0 a1 a2 a3 φ) := by
  apply Subtype.mk; unfold fn_threefry2x32.body_part2
  repeat (first | exact last ⟨by simp, rfl⟩ | exact nil | (apply cons; focus exact ⟨by simp, rfl⟩))

/-- The fourth quarter. -/
def one3 : Lined (fn_threefry2x32.body_part3 (F := F) a0 a1 a2 a3 φ) := by
  apply Subtype.mk; unfold fn_threefry2x32.body_part3
  repeat (first | exact last ⟨by simp, rfl⟩ | exact nil | (apply cons; focus exact ⟨by simp, rfl⟩))

/-- The hash of one counter. -/
def one : Lined (fn_threefry2x32.body (F := F) a0 a1 a2 a3 φ) :=
  ⟨_, append (one0 a0 a1 a2 a3 φ).2 (append (one1 a0 a1 a2 a3 φ).2 (append (one2 a0 a1 a2 a3 φ).2 (one3 a0 a1 a2 a3 φ).2))⟩
end

section
variable (a2 a3 : TRef sig ⟨S8x512x512x16, .i32⟩) (φ : fn_threefry2x32_0.Bufs)

/-- The hash of every counter, first quarter of its text. -/
def all0 : Lined (fn_threefry2x32_0.body_part0 (F := F) a0 a1 a2 a3 φ) := by
  apply Subtype.mk; unfold fn_threefry2x32_0.body_part0
  repeat (first | exact last ⟨by simp, rfl⟩ | exact nil | (apply cons; focus exact ⟨by simp, rfl⟩))

/-- The second quarter. -/
def all1 : Lined (fn_threefry2x32_0.body_part1 (F := F) a0 a1 a2 a3 φ) := by
  apply Subtype.mk; unfold fn_threefry2x32_0.body_part1
  repeat (first | exact last ⟨by simp, rfl⟩ | exact nil | (apply cons; focus exact ⟨by simp, rfl⟩))

/-- The third quarter. -/
def all2 : Lined (fn_threefry2x32_0.body_part2 (F := F) a0 a1 a2 a3 φ) := by
  apply Subtype.mk; unfold fn_threefry2x32_0.body_part2
  repeat (first | exact last ⟨by simp, rfl⟩ | exact nil | (apply cons; focus exact ⟨by simp, rfl⟩))

/-- The fourth quarter. -/
def all3 : Lined (fn_threefry2x32_0.body_part3 (F := F) a0 a1 a2 a3 φ) := by
  apply Subtype.mk; unfold fn_threefry2x32_0.body_part3
  repeat (first | exact last ⟨by simp, rfl⟩ | exact nil | (apply cons; focus exact ⟨by simp, rfl⟩))

/-- The hash of every counter. -/
def all : Lined (fn_threefry2x32_0.body (F := F) a0 a1 a2 a3 φ) :=
  ⟨_, append (all0 a0 a1 a2 a3 φ).2 (append (all1 a0 a1 a2 a3 φ).2 (append (all2 a0 a1 a2 a3 φ).2 (all3 a0 a1 a2 a3 φ).2))⟩
end
end

-- A call stays a call while a piece that makes it is read.
attribute [local irreducible] fn_threefry2x32.body fn_threefry2x32_0.body

/-- A program as two stretches of its own operations with a call between them. -/
structure Split (p : Prog (TpuEff nD τ sig (Elt F) (Pipeline.Sig Λ₀ (Fin 0) fun p => (pcfgs (F := F) p).Adm) .tc) PUnit)
    (x : List (HloOp τ sig (Elt F))) where
  /-- The operations before the call. -/
  a : List (HloOp τ sig (Elt F))
  /-- Those after it. -/
  b : List (HloOp τ sig (Elt F))
  /-- The program is the line of all of them. -/
  good : Good p (a ++ (x ++ b))

/-- The key folded with a number, before and after the hash. -/
def folded : Split (fn_threefry_fold_in.body (F := F) (.of main_v7) (.of main_c_2) main_call0)
    (one main_call0.v6 main_call0.v8 main_call0.v9 main_call0.v10 main_call0.call0).1 := by
  apply Split.mk; unfold fn_threefry_fold_in.body
  repeat (first
    | (apply before; focus exact ⟨by simp, rfl⟩)
    | (apply stop; apply append (one _ _ _ _ _).2; apply cons ⟨by simp, rfl⟩ nil))

/-- The key folded with a number. -/
def fold : Lined (fn_threefry_fold_in.body (F := F) (.of main_v7) (.of main_c_2) main_call0) := ⟨_, folded.good⟩

/-- The greatest entry's place. -/
def arg (a0 : TRef sig ⟨S8x512x512x16, .f32⟩) (φ : fn_argmax.Bufs) : Lined (fn_argmax.body (F := F) a0 φ) := by
  apply Subtype.mk; unfold fn_argmax.body
  repeat (first | exact nil | (apply cons; focus exact ⟨by simp, rfl⟩))

attribute [local irreducible] fn_threefry_fold_in.body fn_argmax.body

/-- A program as three stretches of its own operations with three calls between and after them. -/
structure Cut (p : Prog (TpuEff nD τ sig (Elt F) (Pipeline.Sig Λ₀ (Fin 0) fun p => (pcfgs (F := F) p).Adm) .tc) PUnit)
    (x y z : List (HloOp τ sig (Elt F))) where
  /-- The operations before the first call. -/
  a : List (HloOp τ sig (Elt F))
  /-- Those between the first and the second. -/
  b : List (HloOp τ sig (Elt F))
  /-- Those between the second and the third. -/
  c : List (HloOp τ sig (Elt F))
  /-- The program is the line of all of them. -/
  good : Good p (a ++ (x ++ (b ++ (y ++ (c ++ z)))))

/-- All but the last line of the program. -/
def most (d : Dev nD) : Cut (main_part0 (F := F) d) fold.1
    (all (.of main_v10) (.of main_v12) (.of main_v31) (.of main_v30) main_call1).1 (arg (.of main_v46) main_call2).1 := by
  apply Cut.mk; unfold main_part0
  repeat (first
    | (apply stop; exact (arg _ _).2)
    | (apply before; focus exact ⟨by simp, rfl⟩)
    | (apply stop; apply append fold.2)
    | (apply stop; apply append (all _ _ _ _ _).2))

/-- The last line. -/
def rest (d : Dev nD) : Lined (main_part1 (F := F) d) := by
  apply Subtype.mk; unfold main_part1
  repeat (first | exact nil | (apply cons; focus exact ⟨by simp, rfl⟩))

/-- The whole program. -/
def whole (d : Dev nD) : Lined (main (F := F) d) := ⟨_, append (most d).good (rest d).2⟩

/-- The program runs to what its operations leave of the memory it starts from. -/
theorem run (m : (ℓ : Loc nD τ sig) → Buf (Elt F) ℓ) (g : Dev nD → PrngReg) :
    θ_run (defs (F := F)) (onTc (τ := τ) (main (F := F))) ⟨m, fun _ => 0, g⟩ fun r =>
      ∀ (d : Dev nD) (b : Ref sig .tc),
        r.2.mem ((d.tc : Thread nD τ).loc b) = after (whole (F := F) d).1 (launchContents m d) (Proc.devRef .tc b) :=
  run_seq (by decide) (by decide) defs main (fun d => (whole d).1) (fun d => (whole d).2.1)
    (fun d => List.forall_iff_forall_mem.mpr fun o h => ((whole d).2.2 o h).1) m g (fun d o h => ((whole d).2.2 o h).2)

end Cert.ReferenceIdeal.Line
end
-- ==== Proof.Sampling.Hash.lean ====
/- The hash that turns counters into random words, as the reference spells it: arrays of words, a key of two words, twenty
   rounds in five groups of four, a piece of the key added after each group. -/
module

public import proofs.«01_k».proof.Proof.Gen.ReferenceIdeal

@[expose] public section

noncomputable section

namespace Cert.ReferenceIdeal.Hash

open Idealize.ShloMosaic

variable {s : Shape} (h : S_.BroadcastsInDim s (![] : Fin 0 → Fin s.rank))

/-- One word at every index. -/
def fill (w : IVec S_ 32) : IVec s 32 := broadcastInDim s ![] h w

/-- The rotation to the left by `l`, spelled with the shift to the right by `r`. -/
def turn (l r : BitVec 32) (x : IVec s 32) : IVec s 32 :=
  ori (Host.shli x (fill h (constantI S_ 32 l))) (Host.shrui x (fill h (constantI S_ 32 r)))

/-- The second word added to the first. -/
def sum (p : IVec s 32 × IVec s 32) : IVec s 32 × IVec s 32 := (addi p.1 p.2, p.2)

/-- The second word turned, and the first mixed into it. -/
def twist (l r : BitVec 32) (p : IVec s 32 × IVec s 32) : IVec s 32 × IVec s 32 := (p.1, xori p.1 (turn h l r p.2))

/-- A round. -/
def round (l r : BitVec 32) (p : IVec s 32 × IVec s 32) : IVec s 32 × IVec s 32 := twist h l r (sum p)

/-- Two words of the key added, and the group's number. -/
def inject (a b : IVec S_ 32) (n : BitVec 32) (p : IVec s 32 × IVec s 32) : IVec s 32 × IVec s 32 :=
  (addi p.1 (fill h a), addi (addi p.2 (fill h b)) (fill h (constantI S_ 32 n)))

/-- The four rounds of an even group. -/
def even (p : IVec s 32 × IVec s 32) : IVec s 32 × IVec s 32 := round h 6 26 (round h 26 6 (round h 15 17 (round h 13 19 p)))

/-- The four rounds of an odd group. -/
def odd (p : IVec s 32 × IVec s 32) : IVec s 32 × IVec s 32 := round h 24 8 (round h 16 16 (round h 29 3 (round h 17 15 p)))

/-- The key's third word. -/
def third (k l : IVec S_ 32) : IVec S_ 32 := xori (xori k l) (constantI S_ 32 466688986)

/-- The hash under the key `k`, `l`. -/
def hash (k l : IVec S_ 32) (p : IVec s 32 × IVec s 32) : IVec s 32 × IVec s 32 :=
  inject h (third k l) k 5 (even h (inject h l (third k l) 4 (odd h (inject h k l 3 (even h (inject h (third k l) k 2 (odd h
    (inject h l (third k l) 1 (even h (addi p.1 (fill h k), addi p.2 (fill h l)))))))))))

/-! The same in the four pieces that the reference's text is printed in. -/

/-- The first piece, up to the sum of the sixth round; `m` is the key's third word. -/
def piece0 (k l m : IVec S_ 32) (p : IVec s 32 × IVec s 32) : IVec s 32 × IVec s 32 :=
  sum (round h 17 15 (inject h l m 1 (even h (addi p.1 (fill h k), addi p.2 (fill h l)))))

/-- The second, up to the eleventh round. -/
def piece1 (k m : IVec S_ 32) (p : IVec s 32 × IVec s 32) : IVec s 32 × IVec s 32 :=
  round h 26 6 (round h 15 17 (round h 13 19 (inject h m k 2 (round h 24 8 (round h 16 16 (twist h 29 3 p))))))

/-- The third, up to the sum of the seventeenth. -/
def piece2 (k l m : IVec S_ 32) (p : IVec s 32 × IVec s 32) : IVec s 32 × IVec s 32 :=
  sum (inject h l m 4 (odd h (inject h k l 3 (round h 6 26 p))))

/-- The fourth. -/
def piece3 (k m : IVec S_ 32) (p : IVec s 32 × IVec s 32) : IVec s 32 × IVec s 32 :=
  inject h m k 5 (round h 6 26 (round h 26 6 (round h 15 17 (twist h 13 19 p))))

/-- The pieces one after another are the hash. -/
theorem pieces (k l : IVec S_ 32) (p : IVec s 32 × IVec s 32) :
    piece3 h k (third k l) (piece2 h k l (third k l) (piece1 h k (third k l) (piece0 h k l (third k l) p))) = hash h k l p := rfl

end Cert.ReferenceIdeal.Hash
end
-- ==== Proof.Sampling.HashReads.lean ====
/- What the two hashes of the reference leave in their result buffers, whatever the buffers hold before. -/
module

public import proofs.«01_k».proof.Proof.Sampling.Lines
public import proofs.«01_k».proof.Proof.Sampling.Hash

@[expose] public section

noncomputable section

namespace Cert.ReferenceIdeal.Reads

open Idealize.SL.Sem Idealize.ShloMosaic Idealize.ShloMosaic.StableHlo Cert.ReferenceIdeal.Line Facts₀
variable {F : FTy → Type} [FloatOps F]

/-- Where a hash keeps its words: the key's two words `k` and `l`, its third word `m`, and the pair of words before the first
    quarter (`p0`) and after each of the four. -/
structure Kept (F : FTy → Type) (s : Shape) where
  k : Valuation τ sig (Elt F) → IVec S_ 32
  l : Valuation τ sig (Elt F) → IVec S_ 32
  m : Valuation τ sig (Elt F) → IVec S_ 32
  p0 : Valuation τ sig (Elt F) → IVec s 32 × IVec s 32
  p1 : Valuation τ sig (Elt F) → IVec s 32 × IVec s 32
  p2 : Valuation τ sig (Elt F) → IVec s 32 × IVec s 32
  p3 : Valuation τ sig (Elt F) → IVec s 32 × IVec s 32
  p4 : Valuation τ sig (Elt F) → IVec s 32 × IVec s 32

/-- What each quarter of a hash leaves, whatever the buffers hold before. -/
structure Quarters {s : Shape} (h : S_.BroadcastsInDim s ![]) (r : Kept F s) (l₀ l₁ l₂ l₃ : List (HloOp τ sig (Elt F))) : Prop where
  first : ∀ V, r.p1 (after l₀ V) = Hash.piece0 h (r.k V) (r.l V) (Hash.third (r.k V) (r.l V)) (r.p0 V)
    ∧ r.m (after l₀ V) = Hash.third (r.k V) (r.l V) ∧ r.k (after l₀ V) = r.k V ∧ r.l (after l₀ V) = r.l V
  second : ∀ V, r.p2 (after l₁ V) = Hash.piece1 h (r.k V) (r.m V) (r.p1 V)
    ∧ r.m (after l₁ V) = r.m V ∧ r.k (after l₁ V) = r.k V ∧ r.l (after l₁ V) = r.l V
  third : ∀ V, r.p3 (after l₂ V) = Hash.piece2 h (r.k V) (r.l V) (r.m V) (r.p2 V)
    ∧ r.m (after l₂ V) = r.m V ∧ r.k (after l₂ V) = r.k V
  fourth : ∀ V, r.p4 (after l₃ V) = Hash.piece3 h (r.k V) (r.m V) (r.p3 V)

/-- The quarters one after another leave the hash. -/
theorem Quarters.hash {s : Shape} {h : S_.BroadcastsInDim s ![]} {r : Kept F s} {l₀ l₁ l₂ l₃ : List (HloOp τ sig (Elt F))}
    (q : Quarters h r l₀ l₁ l₂ l₃) (V : Valuation τ sig (Elt F)) :
    r.p4 (after (l₀ ++ (l₁ ++ (l₂ ++ l₃))) V) = Hash.hash h (r.k V) (r.l V) (r.p0 V) := by
  simp only [after_append]
  obtain ⟨a, b, c, d⟩ := q.first V
  obtain ⟨a', b', c', d'⟩ := q.second (after l₀ V)
  obtain ⟨a'', b'', c''⟩ := q.third (after l₁ (after l₀ V))
  rw [q.fourth, a'', b'', c'', a', b', c', d', a, b, c, d, Hash.pieces]

attribute [local irreducible] addi xori ori Host.shli Host.shrui broadcastInDim constantI

/-- The words of the hash of one counter. -/
abbrev oneKept : Kept F S1 where
  k V := V (Proc.devRef .tc main_call0_v6)
  l V := V (Proc.devRef .tc main_call0_v8)
  m V := V (Proc.devRef .tc main_call0_call0_v1)
  p0 V := (V (Proc.devRef .tc main_call0_v9), V (Proc.devRef .tc main_call0_v10))
  p1 V := (V (Proc.devRef .tc main_call0_call0_v47), V (Proc.devRef .tc main_call0_call0_v46))
  p2 V := (V (Proc.devRef .tc main_call0_call0_v88), V (Proc.devRef .tc main_call0_call0_v94))
  p3 V := (V (Proc.devRef .tc main_call0_call0_v142), V (Proc.devRef .tc main_call0_call0_v141))
  p4 V := (V (Proc.devRef .tc main_call0_v11_0), V (Proc.devRef .tc main_call0_v11_1))

/-- The words of the hash of every counter. -/
abbrev allKept : Kept F S8x512x512x16 where
  k V := V (Proc.devRef .tc main_v10)
  l V := V (Proc.devRef .tc main_v12)
  m V := V (Proc.devRef .tc main_call1_v1)
  p0 V := (V (Proc.devRef .tc main_v31), V (Proc.devRef .tc main_v30))
  p1 V := (V (Proc.devRef .tc main_call1_v47), V (Proc.devRef .tc main_call1_v46))
  p2 V := (V (Proc.devRef .tc main_call1_v88), V (Proc.devRef .tc main_call1_v94))
  p3 V := (V (Proc.devRef .tc main_call1_v142), V (Proc.devRef .tc main_call1_v141))
  p4 V := (V (Proc.devRef .tc main_v32_0), V (Proc.devRef .tc main_v32_1))

set_option maxHeartbeats 4000000 in
set_option maxRecDepth 8000 in
/-- The quarters of the hash of one counter. -/
theorem one_quarters : Quarters bcast_S_S1 (oneKept (F := F)) (one0 main_call0.v6 main_call0.v8 main_call0.v9 main_call0.v10 main_call0.call0).1
    (one1 main_call0.v6 main_call0.v8 main_call0.v9 main_call0.v10 main_call0.call0).1
    (one2 main_call0.v6 main_call0.v8 main_call0.v9 main_call0.v10 main_call0.call0).1
    (one3 main_call0.v6 main_call0.v8 main_call0.v9 main_call0.v10 main_call0.call0).1 := by
  unfold one0 one1 one2 one3
  dsimp only
  constructor <;> intro V <;> (repeat' apply And.intro) <;> (try apply Prod.ext) <;> dsimp only <;> (after_reads_simp; try rfl)

set_option maxHeartbeats 4000000 in
set_option maxRecDepth 8000 in
/-- The quarters of the hash of every counter. -/
theorem all_quarters : Quarters bcast_S_S8x512x512x16 (allKept (F := F)) (all0 (.of main_v10) (.of main_v12) (.of main_v31) (.of main_v30) main_call1).1
    (all1 (.of main_v10) (.of main_v12) (.of main_v31) (.of main_v30) main_call1).1
    (all2 (.of main_v10) (.of main_v12) (.of main_v31) (.of main_v30) main_call1).1
    (all3 (.of main_v10) (.of main_v12) (.of main_v31) (.of main_v30) main_call1).1 := by
  unfold all0 all1 all2 all3
  dsimp only
  constructor <;> intro V <;> (repeat' apply And.intro) <;> (try apply Prod.ext) <;> dsimp only <;> (after_reads_simp; try rfl)

/-- What the hash of one counter leaves. -/
theorem one_hash (V : Valuation τ sig (Elt F)) :
    let W := after (one (F := F) main_call0.v6 main_call0.v8 main_call0.v9 main_call0.v10 main_call0.call0).1 V
    let p := Hash.hash bcast_S_S1 (V (Proc.devRef .tc main_call0_v6)) (V (Proc.devRef .tc main_call0_v8)) (V (Proc.devRef .tc main_call0_v9), V (Proc.devRef .tc main_call0_v10))
    W (Proc.devRef .tc main_call0_v11_0) = p.1 ∧
      W (Proc.devRef .tc main_call0_v11_1) = p.2 :=
  Prod.ext_iff.mp (one_quarters.hash V)

/-- What the hash of every counter leaves. -/
theorem all_hash (V : Valuation τ sig (Elt F)) :
    let W := after (all (F := F) (.of main_v10) (.of main_v12) (.of main_v31) (.of main_v30) main_call1).1 V
    let p := Hash.hash bcast_S_S8x512x512x16 (V (Proc.devRef .tc main_v10)) (V (Proc.devRef .tc main_v12)) (V (Proc.devRef .tc main_v31), V (Proc.devRef .tc main_v30))
    W (Proc.devRef .tc main_v32_0) = p.1 ∧
      W (Proc.devRef .tc main_v32_1) = p.2 :=
  Prod.ext_iff.mp (all_quarters.hash V)

end Cert.ReferenceIdeal.Reads
end
-- ==== Proof.Sampling.Draw.lean ====
/- What the reference computes, as one function of the logits: the key, the counters, the random words, the Gumbel noise,
   and the place of the greatest sum. -/
module

public import proofs.«01_k».proof.Proof.Sampling.Hash

@[expose] public section

noncomputable section

namespace Cert.ReferenceIdeal.Draw

open Idealize.ShloMosaic Facts₀

variable {F : FTy → Type} [FloatOps F]

/-- Two words in a row. -/
def two (x y : IVec S1 32) : IVec S2 32 := concatenate S2 0 [⟨S1, x⟩, ⟨S1, y⟩] concatenates_S1_S1_S2_d0

/-- A number as two words, the high one first. -/
def wide (x : IVec S_ 32) : IVec S2 32 :=
  two (broadcastInDim S1 ![] bcast_S_S1 (Host.shrui x (constantI S_ 32 32)))
    (broadcastInDim S1 ![] bcast_S_S1 (andi x (constantI S_ 32 4294967295)))

/-- The first of two words. -/
def head (x : IVec S2 32) : IVec S1 32 := extractStridedSlice S1 ![0] x slices_S2_S1_0

/-- The second of them. -/
def tail (x : IVec S2 32) : IVec S1 32 := extractStridedSlice S1 ![1] x slices_S2_S1_1

/-- A word by itself, out of a row of one. -/
def lone (x : IVec S1 32) : IVec S_ 32 := shapeCast S_ x shapeCasts_S1_S_

/-- A key folded with a number. -/
def folded (k : IVec S2 32) (n : IVec S_ 32) : IVec S2 32 :=
  two (Hash.hash bcast_S_S1 (lone (head k)) (lone (tail k)) (head (wide n), tail (wide n))).1
    (Hash.hash bcast_S_S1 (lone (head k)) (lone (tail k)) (head (wide n), tail (wide n))).2

/-- The key of the draw. -/
def key : IVec S2 32 := folded (wide (constantI S_ 32 42)) (constantI S_ 32 7)

/-- A step of the counter along one dimension. -/
def along (n : BitVec 64) (d : Fin S8x512x512x16.rank) : IVec S8x512x512x16 64 :=
  muli (broadcastInDim S8x512x512x16 ![] bcast_S_S8x512x512x16 (constantI S_ 64 n)) (iotaInDim S8x512x512x16 64 d)

/-- The counter of every element: its place in row-major order. -/
def counter : IVec S8x512x512x16 64 := addi (addi (addi (along 4194304 0) (along 8192 1)) (along 16 2)) (along 1 3)

/-- The counter's high word. -/
def high : IVec S8x512x512x16 32 :=
  trunci 32 (Host.shrui counter (broadcastInDim S8x512x512x16 ![] bcast_S_S8x512x512x16 (constantI S_ 64 32))) natLt_32_64

/-- The counter's low word. -/
def low : IVec S8x512x512x16 32 := trunci 32 counter natLt_32_64

/-- The two words that the hash makes of every counter. -/
def words : IVec S8x512x512x16 32 × IVec S8x512x512x16 32 :=
  Hash.hash bcast_S_S8x512x512x16 (lone (head key)) (lone (tail key)) (high, low)

/-- A float at every index. -/
def level (b : BitVec 32) : FVec F S8x512x512x16 .f32 :=
  broadcastInDim S8x512x512x16 ![] bcast_S_S8x512x512x16 (constant S_ .f32 b)

/-- The noise that two random words make. -/
def gumbel (x y : IVec S8x512x512x16 32) : FVec F S8x512x512x16 .f32 :=
  Host.negf (Host.log (Host.negf (Host.log (maximumf (mulf (sitofp .f32
    (Host.shrui (xori x y) (broadcastInDim S8x512x512x16 ![] bcast_S_S8x512x512x16 (constantI S_ 32 9)))) (level 0x34000000#32))
      (level 0x00800000#32)))))

/-- The channels moved to the end. -/
def moved (x : FVec F S8x16x512x512 .f32) : FVec F S8x512x512x16 .f32 :=
  transpose S8x512x512x16 [0, 2, 3, 1] x transposes_S8x16x512x512_S8x512x512x16_0_2_3_1

/-- The place of the greatest entry along the last dimension. -/
def place (x : FVec F S8x512x512x16 .f32) : IVec S8x512x512 32 := fun j =>
  (Host.argReduce reducer_argmax_f32_i32 x (iotaInDim S8x512x512x16 32 3) (constant S_ .f32 0xFF800000#32) (constantI S_ 32 0)
    reducesTo_S8x512x512x16_S8x512x512_d3 h_S_ j).2

/-- The sample that the reference draws. -/
def sample (x : FVec F S8x16x512x512 .f32) : IVec S8x1x512x512 32 :=
  shapeCast S8x1x512x512 (place (addf (gumbel words.1 words.2) (moved x))) shapeCasts_S8x512x512_S8x1x512x512

end Cert.ReferenceIdeal.Draw
end
-- ==== Proof.Sampling.Reads.lean ====
/- What the reference leaves in its result buffer, and that it leaves its argument and every counter as they were. -/
module

public import proofs.«01_k».proof.Proof.Sampling.HashReads
public import proofs.«01_k».proof.Proof.Sampling.Draw
public import Idealize.ShloMosaic.Lib.Quiescent

@[expose] public section

noncomputable section

namespace Cert.ReferenceIdeal.Reads

open Idealize.SL.Sem Idealize.ShloMosaic Idealize.ShloMosaic.StableHlo Cert.ReferenceIdeal.Line Facts₀
variable {F : FTy → Type} [FloatOps F]

attribute [local irreducible] addi xori ori andi muli trunci sitofp addf mulf maximumf Host.log Host.negf Host.shli Host.shrui
  broadcastInDim constantI constant iotaInDim transpose concatenate extractStridedSlice shapeCast Host.argReduce Hash.hash

set_option maxRecDepth 8000

/-- Before the key is folded. -/
theorem opening (d : Dev nD) (V : Valuation τ sig (Elt F)) :
    let W := after (most (F := F) d).a V
    W (Proc.devRef .tc main_v7) = Draw.wide (constantI S_ 32 42) ∧
      W (Proc.devRef .tc main_c_2) = constantI S_ 32 7 ∧
      W (Proc.devRef .tc main_v0) = Draw.moved (V (Proc.devRef .tc main_arg0)) ∧
      W (Proc.devRef .tc main_arg0) = V (Proc.devRef .tc main_arg0) := by
  unfold most
  dsimp only
  refine ⟨?_, ?_, ?_, ?_⟩ <;> (after_reads_simp; try rfl)

/-- The key folded. -/
theorem folding (V : Valuation τ sig (Elt F)) :
    let W := after (fold (F := F)).1 V
    W (Proc.devRef .tc main_v8) = Draw.folded (V (Proc.devRef .tc main_v7)) (V (Proc.devRef .tc main_c_2)) ∧
      W (Proc.devRef .tc main_v0) = V (Proc.devRef .tc main_v0) ∧
      W (Proc.devRef .tc main_arg0) = V (Proc.devRef .tc main_arg0) := by
  have hb : ∀ V : Valuation τ sig (Elt F), after (folded (F := F)).b V (Proc.devRef .tc main_v8)
      = Draw.two (V (Proc.devRef .tc main_call0_v11_0)) (V (Proc.devRef .tc main_call0_v11_1)) := by
    intro V; unfold folded; dsimp only; after_reads_simp; rfl
  have ha : ∀ V : Valuation τ sig (Elt F), let W := after (folded (F := F)).a V
      W (Proc.devRef .tc main_call0_v6) = Draw.lone (Draw.head (V (Proc.devRef .tc main_v7)))
      ∧ W (Proc.devRef .tc main_call0_v8) = Draw.lone (Draw.tail (V (Proc.devRef .tc main_v7)))
      ∧ W (Proc.devRef .tc main_call0_v9) = Draw.head (Draw.wide (V (Proc.devRef .tc main_c_2)))
      ∧ W (Proc.devRef .tc main_call0_v10) = Draw.tail (Draw.wide (V (Proc.devRef .tc main_c_2))) := by
    intro V; unfold folded; dsimp only; refine ⟨?_, ?_, ?_, ?_⟩ <;> (after_reads_simp; try rfl)
  dsimp only
  refine ⟨?_, ?_, ?_⟩
  · unfold fold
    simp only [after_append]
    obtain ⟨e, f⟩ := one_hash (after (folded (F := F)).a V)
    obtain ⟨a, b, c, d⟩ := ha V
    simp only [a, b, c, d] at e f
    rw [hb, e, f]
    rfl
  all_goals
    unfold fold folded one one0 one1 one2 one3
    simp only [List.cons_append, List.nil_append]
    after_reads_simp

/-- The counters. -/
theorem counting (d : Dev nD) (V : Valuation τ sig (Elt F)) :
    let W := after (most (F := F) d).b V
    W (Proc.devRef .tc main_v10) = Draw.lone (Draw.head (V (Proc.devRef .tc main_v8))) ∧
      W (Proc.devRef .tc main_v12) = Draw.lone (Draw.tail (V (Proc.devRef .tc main_v8))) ∧
      W (Proc.devRef .tc main_v31) = Draw.high ∧
      W (Proc.devRef .tc main_v30) = Draw.low ∧
      W (Proc.devRef .tc main_v0) = V (Proc.devRef .tc main_v0) ∧
      W (Proc.devRef .tc main_arg0) = V (Proc.devRef .tc main_arg0) := by
  unfold most
  dsimp only
  refine ⟨?_, ?_, ?_, ?_, ?_, ?_⟩ <;> (after_reads_simp; try rfl)

/-- The hash of the counters leaves the rest alone. -/
theorem hashing (V : Valuation τ sig (Elt F)) :
    let W := after (all (F := F) (.of main_v10) (.of main_v12) (.of main_v31) (.of main_v30) main_call1).1 V
    W (Proc.devRef .tc main_v0) = V (Proc.devRef .tc main_v0) ∧
      W (Proc.devRef .tc main_arg0) = V (Proc.devRef .tc main_arg0) := by
  unfold all all0 all1 all2 all3
  simp only [List.cons_append, List.nil_append]
  refine ⟨?_, ?_⟩ <;> after_reads_simp

/-- The noise and the sums. -/
theorem scoring (d : Dev nD) (V : Valuation τ sig (Elt F)) :
    let W := after (most (F := F) d).c V
    W (Proc.devRef .tc main_v46) = addf (Draw.gumbel (V (Proc.devRef .tc main_v32_0)) (V (Proc.devRef .tc main_v32_1))) (V (Proc.devRef .tc main_v0)) ∧
      W (Proc.devRef .tc main_arg0) = V (Proc.devRef .tc main_arg0) := by
  unfold most
  dsimp only
  refine ⟨?_, ?_⟩ <;> (after_reads_simp; try rfl)

/-- The greatest sum's place. -/
theorem placing (V : Valuation τ sig (Elt F)) :
    let W := after (arg (F := F) (.of main_v46) main_call2).1 V
    W (Proc.devRef .tc main_v47) = Draw.place (V (Proc.devRef .tc main_v46)) ∧
      W (Proc.devRef .tc main_arg0) = V (Proc.devRef .tc main_arg0) := by
  unfold arg
  dsimp only
  refine ⟨?_, ?_⟩ <;> (after_reads_simp; try rfl)

/-- The result's shape. -/
theorem ending (d : Dev nD) (V : Valuation τ sig (Elt F)) :
    let W := after (rest (F := F) d).1 V
    W (Proc.devRef .tc main_v48) = shapeCast S8x1x512x512 (V (Proc.devRef .tc main_v47) : IVec S8x512x512 32) shapeCasts_S8x512x512_S8x1x512x512 ∧
      W (Proc.devRef .tc main_arg0) = V (Proc.devRef .tc main_arg0) := by
  unfold rest
  dsimp only
  refine ⟨?_, ?_⟩ <;> (after_reads_simp; try rfl)

/-- The whole program: the sample of its argument, which stays. -/
theorem drawn (d : Dev nD) (V : Valuation τ sig (Elt F)) :
    let W := after (whole (F := F) d).1 V
    W (Proc.devRef .tc main_v48) = Draw.sample (V (Proc.devRef .tc main_arg0)) ∧
      W (Proc.devRef .tc main_arg0) = V (Proc.devRef .tc main_arg0) := by
  unfold whole
  simp only [after_append]
  set V₁ := after (most (F := F) d).a V with h₁
  set V₂ := after (fold (F := F)).1 V₁ with h₂
  set V₃ := after (most (F := F) d).b V₂ with h₃
  set V₄ := after (all (F := F) (.of main_v10) (.of main_v12) (.of main_v31) (.of main_v30) main_call1).1 V₃ with h₄
  set V₅ := after (most (F := F) d).c V₄ with h₅
  set V₆ := after (arg (F := F) (.of main_v46) main_call2).1 V₅ with h₆
  obtain ⟨a7, a2, a0, aa⟩ := opening d V
  obtain ⟨b8, b0, ba⟩ := folding V₁
  obtain ⟨c10, c12, c31, c30, c0, ca⟩ := counting d V₂
  obtain ⟨d0, da⟩ := hashing V₃
  obtain ⟨dx, dy⟩ := all_hash V₃
  obtain ⟨e46, ea⟩ := scoring d V₄
  obtain ⟨f47, fa⟩ := placing V₅
  obtain ⟨g48, ga⟩ := ending d V₆
  simp only [← h₁, ← h₂, ← h₃, ← h₄, ← h₅, ← h₆] at a7 a2 a0 aa b8 b0 ba c10 c12 c31 c30 c0 ca d0 da dx dy e46 ea f47 fa
  constructor
  · rw [g48, f47, e46, dx, dy, d0, c0, b0, a0, c10, c12, c31, c30, b8, a7, a2]
    rfl
  · rw [ga, fa, ea, da, ca, ba, aa]

/-- The reference runs to the sample of its argument, which stays, with every counter at zero. -/
theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v48) = Draw.sample (m ((c.tc : Thread nD τ).loc main_arg0))
        ∧ r.2.mem ((c.tc : Thread nD τ).loc main_arg0) = m ((c.tc : Thread nD τ).loc main_arg0))
      ∧ r.2.sem = fun _ => 0 :=
  θ_run_mono (Line.run m g) fun r h => ⟨fun c => ⟨(h c main_v48).trans (drawn c (launchContents m c)).1,
    (h c main_arg0).trans (drawn c (launchContents m c)).2⟩, sem_eq_zero_of_no_sems rfl _⟩

end Cert.ReferenceIdeal.Reads
end
-- ==== Proof.Sampling.Block.lean ====
/- What the kernel's body computes at one grid point, as vectors: the sixteen channels' hash words, their scores, and
   the running choice of the largest score. -/
module

public import proofs.«01_k».proof.Proof.Gen.KernelIdeal.Frame

@[expose] public section

noncomputable section

namespace Cert.KernelIdeal.Block

open Cert.KernelIdeal Cert.KernelIdeal.Gen Idealize.ShloMosaic

variable {F : FTy → Type} [FloatOps F]

/-- One word per voxel of a block. -/
abbrev Words := IVec S128x512 32
/-- One float per voxel of a block. -/
abbrev Floats (F : FTy → Type) := FVec F S128x512 .f32

/-- The same word at every voxel. -/
abbrev splat (w : BitVec 32) : Words := broadcast S128x512 w

/-- A rotation to the left by `l`, where `r = 32 - l`. -/
def rot (l r : BitVec 32) (x : Words) : Words := ori (shli x (splat l)) (shrui x (splat r))

/-- One round of the hash on a pair of words. -/
def mix (l r : BitVec 32) (s : Words × Words) : Words × Words :=
  (addi s.1 s.2, xori (addi s.1 s.2) (rot l r s.2))

/-- The addition of a pair of key words. -/
def key (a b : BitVec 32) (s : Words × Words) : Words × Words := (addi s.1 (splat a), addi s.2 (splat b))

/-- The first round, whose first word is the key's alone. -/
def first (x : Words) : Words × Words :=
  (addi x (splat 2547012911#32), xori (addi x (splat 2547012911#32)) (rot 13#32 19#32 x))

/-- The four rounds of an even group. -/
def even (s : Words × Words) : Words × Words := mix 6#32 26#32 (mix 26#32 6#32 (mix 15#32 17#32 (mix 13#32 19#32 s)))
/-- The four rounds of an odd group. -/
def odd (s : Words × Words) : Words × Words := mix 24#32 8#32 (mix 16#32 16#32 (mix 29#32 3#32 (mix 17#32 15#32 s)))

/-- The twenty rounds on a counter word whose key word is already added. -/
def hash (x : Words) : Words × Words :=
  key 3720232810#32 2547012916#32 (even
    (key 1371500959#32 3720232814#32 (odd
      (key 2547012911#32 1371500962#32 (even
        (key 3720232810#32 2547012913#32 (odd
          (key 1371500959#32 3720232811#32 (mix 6#32 26#32 (mix 26#32 6#32 (mix 15#32 17#32 (first x))))))))))))

/-- The random word of every voxel: the two hash words' exclusive or. -/
def bits (x : Words) : Words := xori (hash x).1 (hash x).2

/-- The uniform variable made of a word's upper 23 bits. -/
def uniform (b : Words) : Floats F :=
  maximumf (subf (bitcastToFloat .f32 (ori (shrui b (splat 9#32)) (splat 1065353216#32)))
    (broadcast S128x512 (Scalar.ofBits .f32 0x3F800000#32))) (broadcast S128x512 (Scalar.ofBits .f32 0x00800000#32))

/-- A channel's score: its logit less the logarithm of minus the logarithm of the uniform variable. -/
def score (logit : Floats F) (b : Words) : Floats F :=
  subf logit (log (subf (broadcast S128x512 (Scalar.ofBits .f32 0x00000000#32)) (log (uniform b))))

/-- One channel's logits out of the block. -/
def logit (x : Vec F S1x16x128x512 .f32) (c : Nat) (h : S16x128x512.Slices ![c, 0, 0] S1x128x512) : Floats F :=
  shapeCast S128x512 (extractStridedSlice S1x128x512 ![c, 0, 0]
    (shapeCast S16x128x512 (View.ld x r0_0) shapeCasts_S1x16x128x512_S16x128x512) h) shapeCasts_S1x128x512_S128x512

/-- The block's first counter, at a grid point, with the key word added. -/
def base (i : grid0.Coords) : BitVec 32 :=
  Scalar.addi (Scalar.muli (Scalar.addi (Scalar.muli (BitVec.ofNat 32 (i 1).val) 512#32)
    (Scalar.muli 128#32 (BitVec.ofNat 32 (i 0).val))) 8192#32) 1371500959#32

/-- The counter of every voxel within its block. -/
def voxel : Words :=
  muli (addi (muli (iota .tc S128x512 32 [0] iota_S128x512_d0_w32) (splat 512#32))
    (iota .tc S128x512 32 [1] iota_S128x512_d1_w32)) (splat 16#32)

/-- The random words of channel `c`. -/
def chanBits (i : grid0.Coords) (c : Nat) : Words := bits (addi voxel (splat (Scalar.addi (base i) (BitVec.ofNat 32 c))))

/-- The scores of channel `c`. -/
def chan (i : grid0.Coords) (x : Vec F S1x16x128x512 .f32) (c : Nat) (h : S16x128x512.Slices ![c, 0, 0] S1x128x512) : Floats F :=
  score (logit x c h) (chanBits i c)

/-- A channel takes the place of the running choice where its score is greater. -/
def pick (c : Nat) (sc : Floats F) (s : Words × Floats F) : Words × Floats F :=
  (select (cmpf .ogt sc s.2) (splat (BitVec.ofNat 32 c)) s.1, select (cmpf .ogt sc s.2) sc s.2)

/-- Every channel's slab lies in the block. -/
theorem slice (c : Nat) (h : c < 16) : S16x128x512.Slices ![c, 0, 0] S1x128x512 := by
  refine ⟨rfl, ?_⟩
  intro a
  fin_cases a <;> simp <;> omega

/-- The running choice after channel `c`: the channel chosen so far at every voxel, and its score. -/
def choice (i : grid0.Coords) (x : Vec F S1x16x128x512 .f32) : (c : Nat) → c < 16 → Words × Floats F
  | 0, h => (splat 0#32, chan i x 0 (slice 0 h))
  | c + 1, h => pick (c + 1) (chan i x (c + 1) (slice (c + 1) h)) (choice i x c (by omega))

end Cert.KernelIdeal.Block
end
-- ==== Proof.Sampling.Words.lean ====
/- The hash on one counter: both programs compute it at every element. -/
module

public import proofs.«01_k».proof.Proof.Sampling.Hash
public import proofs.«01_k».proof.Proof.Sampling.Block

@[expose] public section

namespace Cert.Words

open Idealize.ShloMosaic

/-- A pair of words. -/
abbrev Pair := BitVec 32 × BitVec 32

/-- The rotation to the left by `l`, with `r` the rest of the width. -/
def rot (l r x : BitVec 32) : BitVec 32 := (x <<< l) ||| (x >>> r)

/-- A round. -/
def round (l r : BitVec 32) (p : Pair) : Pair := (p.1 + p.2, (p.1 + p.2) ^^^ rot l r p.2)

/-- Two words of the key and the group's number added. -/
def inject (a b n : BitVec 32) (p : Pair) : Pair := (p.1 + a, p.2 + b + n)

/-- The four rounds of an even group. -/
def even (p : Pair) : Pair := round 6 26 (round 26 6 (round 15 17 (round 13 19 p)))

/-- The four rounds of an odd group. -/
def odd (p : Pair) : Pair := round 24 8 (round 16 16 (round 29 3 (round 17 15 p)))

/-- The key's third word. -/
def third (k l : BitVec 32) : BitVec 32 := k ^^^ l ^^^ 466688986

/-- The hash of a counter under the key `k`, `l`. -/
def hash (k l : BitVec 32) (p : Pair) : Pair :=
  inject (third k l) k 5 (even (inject l (third k l) 4 (odd (inject k l 3 (even (inject (third k l) k 2 (odd
    (inject l (third k l) 1 (even (p.1 + k, p.2 + l))))))))))

section host
open Cert.ReferenceIdeal

variable {s : Shape} (h : S_.BroadcastsInDim s (![] : Fin 0 → Fin s.rank)) (i : s.Idx)

/-- The one index of a word by itself. -/
def pt : S_.Idx := fun a => a.elim0

/-- A pair of arrays at an index. -/
def at2 (p : IVec s 32 × IVec s 32) : Pair := (p.1 i, p.2 i)

theorem fill_at (w : IVec S_ 32) : Hash.fill h w i = w pt := congrArg w (funext fun a => a.elim0)

theorem round_at (l r : BitVec 32) (p : IVec s 32 × IVec s 32) (hl : l.toNat < 32) (hr : r.toNat < 32) :
    at2 i (Hash.round h l r p) = round l r (at2 i p) := by
  have e : Hash.turn h l r p.2 i = rot l r (p.2 i) := by
    change IntOp.shli .host (p.2 i) (Hash.fill h (constantI S_ 32 l) i) ||| IntOp.shrui .host (p.2 i) (Hash.fill h (constantI S_ 32 r) i) = _
    rw [fill_at, fill_at]
    change IntOp.shli .host (p.2 i) l ||| IntOp.shrui .host (p.2 i) r = _
    rw [IntOp.shli, IntOp.shrui, if_pos hl, if_pos hr]; rfl
  change (p.1 i + p.2 i, (p.1 i + p.2 i) ^^^ Hash.turn h l r p.2 i) = _
  rw [e]; rfl

theorem inject_at (a b : IVec S_ 32) (n : BitVec 32) (p : IVec s 32 × IVec s 32) :
    at2 i (Hash.inject h a b n p) = inject (a pt) (b pt) n (at2 i p) := by
  change (p.1 i + Hash.fill h a i, p.2 i + Hash.fill h b i + Hash.fill h (constantI S_ 32 n) i) = _
  rw [fill_at, fill_at, fill_at]; rfl

theorem even_at (p : IVec s 32 × IVec s 32) : at2 i (Hash.even h p) = even (at2 i p) := by
  rw [Hash.even, round_at _ _ _ _ _ (by decide) (by decide), round_at _ _ _ _ _ (by decide) (by decide),
    round_at _ _ _ _ _ (by decide) (by decide), round_at _ _ _ _ _ (by decide) (by decide)]; rfl

theorem odd_at (p : IVec s 32 × IVec s 32) : at2 i (Hash.odd h p) = odd (at2 i p) := by
  rw [Hash.odd, round_at _ _ _ _ _ (by decide) (by decide), round_at _ _ _ _ _ (by decide) (by decide),
    round_at _ _ _ _ _ (by decide) (by decide), round_at _ _ _ _ _ (by decide) (by decide)]; rfl

/-- The reference's hash, at an index. -/
theorem hash_at (k l : IVec S_ 32) (p : IVec s 32 × IVec s 32) :
    at2 i (Hash.hash h k l p) = hash (k pt) (l pt) (at2 i p) := by
  have e : at2 i (addi p.1 (Hash.fill h k), addi p.2 (Hash.fill h l)) = ((at2 i p).1 + k pt, (at2 i p).2 + l pt) := by
    change (p.1 i + Hash.fill h k i, p.2 i + Hash.fill h l i) = _
    rw [fill_at, fill_at]; rfl
  simp only [Hash.hash, inject_at, even_at, odd_at, e]; rfl
end host

section block
open Cert.KernelIdeal

variable (i : S128x512.Idx)

/-- A pair of the kernel's arrays at a voxel. -/
def vox (p : Block.Words × Block.Words) : Pair := (p.1 i, p.2 i)

theorem rot_vox (l r : BitVec 32) (x : Block.Words) (hl : l.toNat < 32) (hr : r.toNat < 32) :
    Block.rot l r x i = rot l r (x i) := by
  change IntOp.shli .vector (x i) l ||| IntOp.shrui .vector (x i) r = _
  rw [IntOp.shli, IntOp.shrui, if_pos hl, if_pos hr]; rfl

theorem mix_vox (l r : BitVec 32) (p : Block.Words × Block.Words) (hl : l.toNat < 32) (hr : r.toNat < 32) :
    vox i (Block.mix l r p) = round l r (vox i p) := by
  change (p.1 i + p.2 i, (p.1 i + p.2 i) ^^^ Block.rot l r p.2 i) = _
  rw [rot_vox i l r _ hl hr]; rfl

theorem even_vox (p : Block.Words × Block.Words) : vox i (Block.even p) = even (vox i p) := by
  rw [Block.even, mix_vox _ _ _ _ (by decide) (by decide), mix_vox _ _ _ _ (by decide) (by decide),
    mix_vox _ _ _ _ (by decide) (by decide), mix_vox _ _ _ _ (by decide) (by decide)]; rfl

theorem odd_vox (p : Block.Words × Block.Words) : vox i (Block.odd p) = odd (vox i p) := by
  rw [Block.odd, mix_vox _ _ _ _ (by decide) (by decide), mix_vox _ _ _ _ (by decide) (by decide),
    mix_vox _ _ _ _ (by decide) (by decide), mix_vox _ _ _ _ (by decide) (by decide)]; rfl

/-- The kernel adds a key word and the group's number as one word. -/
theorem key_vox (a b n c : BitVec 32) (hc : b + n = c) (p : Block.Words × Block.Words) :
    vox i (Block.key a c p) = inject a b n (vox i p) := by
  subst hc
  exact congrArg (Prod.mk _) (BitVec.add_assoc (p.2 i) b n).symm

/-- The kernel starts with the key's second word added, and with the first round on a first word that is zero. -/
theorem first_vox (x : Block.Words) (y : BitVec 32) (hx : x i = y + 1371500959#32) :
    vox i (Block.mix 6#32 26#32 (Block.mix 26#32 6#32 (Block.mix 15#32 17#32 (Block.first x)))) = even (0#32 + 2547012911#32, y + 1371500959#32) := by
  have e : vox i (Block.first x) = round 13 19 (0#32 + 2547012911#32, y + 1371500959#32) := by
    change (x i + 2547012911#32, (x i + 2547012911#32) ^^^ Block.rot 13 19 x i) = _
    rw [rot_vox i _ _ _ (by decide) (by decide), hx, BitVec.zero_add, BitVec.add_comm (y + 1371500959#32)]; rfl
  rw [mix_vox _ _ _ _ (by decide) (by decide), mix_vox _ _ _ _ (by decide) (by decide),
    mix_vox _ _ _ _ (by decide) (by decide), e]; rfl

/-- The kernel's hash at a voxel is the hash of a counter whose high word is zero. -/
theorem hash_vox (x : Block.Words) (y : BitVec 32) (hx : x i = y + 1371500959#32) :
    vox i (Block.hash x) = hash 2547012911 1371500959 (0, y) := by
  have t : third 2547012911 1371500959 = 3720232810#32 := by decide
  rw [Block.hash, key_vox i _ 2547012911 5 _ (by decide), even_vox, key_vox i _ 3720232810 4 _ (by decide), odd_vox,
    key_vox i _ 1371500959 3 _ (by decide), even_vox, key_vox i _ 2547012911 2 _ (by decide), odd_vox,
    key_vox i _ 3720232810 1 _ (by decide), first_vox i x y hx, hash, t]
  rfl
end block

end Cert.Words
end
-- ==== Proof.Sampling.Counters.lean ====
/- The reference's key, its counters, and the random words that it makes of them. -/
module

public import proofs.«01_k».proof.Proof.Sampling.Draw
public import proofs.«01_k».proof.Proof.Sampling.Words
public import Idealize.ShloMosaic.Lib.Pointwise

@[expose] public section

namespace Cert.ReferenceIdeal.Draw

open Idealize.ShloMosaic Facts₀ Cert.Words

/-- The one index of a row of one. -/
def origin : S1.Idx := ix1 0

theorem lone_pt (x : IVec S1 32) : lone x pt = x origin := by
  rw [lone, shapeCast]
  congr 1
  funext a
  fin_cases a
  exact Subsingleton.elim (α := Fin 1) _ _

theorem head_two (x y : IVec S1 32) : head (two x y) origin = x origin := by
  unfold head two; pointwise; rfl

theorem tail_two (x y : IVec S1 32) : tail (two x y) origin = y origin := by
  unfold tail two; pointwise; rfl

/-- A number's high word: none for a word. -/
theorem head_wide (x : IVec S_ 32) : head (wide x) origin = 0#32 := by
  rw [wide, head_two]; rfl

theorem tail_wide (x : IVec S_ 32) : tail (wide x) origin = x pt := by
  rw [wide, tail_two]
  change x _ &&& 4294967295#32 = _
  rw [show (4294967295#32) = BitVec.allOnes 32 from rfl, BitVec.and_allOnes]
  exact congrArg x (funext fun a => a.elim0)

/-- The hash of the number 7 under the key 42. -/
theorem key_pair : at2 origin (Hash.hash bcast_S_S1 (lone (head (wide (constantI S_ 32 42)))) (lone (tail (wide (constantI S_ 32 42))))
    (head (wide (constantI S_ 32 7)), tail (wide (constantI S_ 32 7)))) = (2547012911#32, 1371500959#32) := by
  rw [hash_at, lone_pt, lone_pt, head_wide, tail_wide, show at2 origin (head (wide (constantI S_ 32 7)), tail (wide (constantI S_ 32 7))) = (0#32, 7#32) from
    congrArg₂ Prod.mk (head_wide (constantI S_ 32 7)) (tail_wide (constantI S_ 32 7))]
  decide

theorem key_head : lone (head key) pt = 2547012911#32 := by
  rw [lone_pt, key, folded, head_two]; exact (Prod.ext_iff.mp key_pair).1

theorem key_tail : lone (tail key) pt = 1371500959#32 := by
  rw [lone_pt, key, folded, tail_two]; exact (Prod.ext_iff.mp key_pair).2

variable (i : S8x512x512x16.Idx)

/-- The place of an element in row-major order. -/
def flat : Nat := 4194304 * (i 0).val + 8192 * (i 1).val + 16 * (i 2).val + (i 3).val

theorem flat_lt : flat i < 33554432 := by
  have h0 : (i 0).val < 8 := (i 0).isLt
  have h1 : (i 1).val < 512 := (i 1).isLt
  have h2 : (i 2).val < 512 := (i 2).isLt
  have h3 : (i 3).val < 16 := (i 3).isLt
  unfold flat; omega

theorem counter_at : counter i = BitVec.ofNat 64 (flat i) := by
  change BitVec.ofNat 64 4194304 * BitVec.ofNat 64 (i 0).val + BitVec.ofNat 64 8192 * BitVec.ofNat 64 (i 1).val
    + BitVec.ofNat 64 16 * BitVec.ofNat 64 (i 2).val + BitVec.ofNat 64 1 * BitVec.ofNat 64 (i 3).val = _
  simp only [← BitVec.ofNat_mul, ← BitVec.ofNat_add, flat, Nat.one_mul]

theorem low_at : low i = BitVec.ofNat 32 (flat i) := by
  change (counter i).setWidth 32 = _
  rw [counter_at]
  apply BitVec.eq_of_toNat_eq
  have := flat_lt i
  simp only [BitVec.toNat_setWidth, BitVec.toNat_ofNat]
  omega

theorem high_at : high i = 0#32 := by
  change (IntOp.shrui .host (counter i) 32#64).setWidth 32 = _
  rw [counter_at, IntOp.shrui, if_pos (by decide)]
  apply BitVec.eq_of_toNat_eq
  have := flat_lt i
  simp only [BitVec.toNat_setWidth, BitVec.ushiftRight_eq', BitVec.toNat_ushiftRight, BitVec.toNat_ofNat]
  rw [Nat.mod_eq_of_lt (by omega : flat i < 2 ^ 64), Nat.shiftRight_eq_div_pow, Nat.div_eq_of_lt (by norm_num; omega)]

/-- The random word of an element: the hash of its place. -/
theorem words_at : words.1 i ^^^ words.2 i
    = (hash 2547012911 1371500959 (0, BitVec.ofNat 32 (flat i))).1 ^^^ (hash 2547012911 1371500959 (0, BitVec.ofNat 32 (flat i))).2 := by
  have e : at2 i words = hash 2547012911 1371500959 (0, BitVec.ofNat 32 (flat i)) := by
    rw [words, hash_at, key_head, key_tail, show at2 i (high, low) = (0#32, BitVec.ofNat 32 (flat i)) from congrArg₂ Prod.mk (high_at i) (low_at i)]; rfl
  exact e ▸ rfl

end Cert.ReferenceIdeal.Draw
end
-- ==== Proof.Sampling.Choice.lean ====
/- Choosing the greatest score: the reference folds pairs of a score and its place in any order, a smaller place winning a
   tie; the kernel goes through the places in order and moves only to a strictly greater score. Both choose the same place. -/
module

public import proofs.«01_k».proof.Proof.Gen.ReferenceIdeal
public import Idealize.ShloMosaic.PureOps.Ideal.Laws

@[expose] public section

namespace Cert.Choice

open Idealize.ShloMosaic

/-- A score and its place. -/
abbrev Entry := EReal × BitVec 32

/-- `p` is as good as `q`: a greater score, or the same score at a place no later. -/
def Dom (p q : Entry) : Prop := q.1 < p.1 ∨ (q.1 = p.1 ∧ p.2.toInt ≤ q.2.toInt)

theorem Dom.refl (p : Entry) : Dom p p := .inr ⟨rfl, le_rfl⟩

theorem Dom.trans {p q r : Entry} (h : Dom p q) (k : Dom q r) : Dom p r := by
  rcases h with h | ⟨h, h'⟩ <;> rcases k with k | ⟨k, k'⟩
  · exact .inl (k.trans h)
  · exact .inl (k ▸ h)
  · exact .inl (h ▸ k)
  · exact .inr ⟨k.trans h, h'.trans k'⟩

/-- Two entries as good as one another have one place. -/
theorem Dom.place {p q : Entry} (h : Dom p q) (k : Dom q p) : p.2 = q.2 := by
  rcases h with h | ⟨h, h'⟩ <;> rcases k with k | ⟨k, k'⟩
  · exact absurd (h.trans k) (lt_irrefl _)
  · exact absurd (k ▸ h) (lt_irrefl _)
  · exact absurd (h ▸ k) (lt_irrefl _)
  · exact BitVec.eq_of_toInt_eq (le_antisymm h' k')

/-- The reference's step takes one of its two entries, as good as both. -/
theorem step (p q : Entry) :
    let r : Entry := ReferenceIdeal.reducer_argmax_f32_i32 (F := Ideal) p q
    (r = p ∨ r = q) ∧ Dom r p ∧ Dom r q := by
  obtain ⟨a, i⟩ := p
  obtain ⟨b, j⟩ := q
  have e : ReferenceIdeal.reducer_argmax_f32_i32 (F := Ideal) (a, i) (b, j)
      = if b < a then (a, i) else if a = b ∧ i.toInt < j.toInt then (b, i) else (b, j) := by
    by_cases h : b < a
    · simp [ReferenceIdeal.reducer_argmax_f32_i32, IntOp.ori, IntOp.andi, IntOp.cmpi, Scalar.select, FloatOps.cmpf, Ideal.cmp, h, h.ne']
    · by_cases h' : a = b <;> by_cases h'' : i.toInt < j.toInt <;>
        simp [ReferenceIdeal.reducer_argmax_f32_i32, IntOp.ori, IntOp.andi, IntOp.cmpi, Scalar.select, FloatOps.cmpf, Ideal.cmp, h, h', h'',
          BitVec.slt]
  dsimp only
  rw [e]
  split
  · next h => exact ⟨.inl rfl, Dom.refl _, .inl h⟩
  · next h =>
    split
    · next h' => exact ⟨.inl (by rw [h'.1]), .inr ⟨h'.1, le_rfl⟩, .inr ⟨rfl, h'.2.le⟩⟩
    · next h' =>
      refine ⟨.inr rfl, ?_, Dom.refl _⟩
      rcases lt_or_eq_of_le (not_lt.mp h) with k | k
      · exact .inl k
      · exact .inr ⟨k, not_lt.mp fun l => h' ⟨k, l⟩⟩

/-- The reference's fold ends with one of the entries, as good as all of them. -/
theorem fold (l : List Entry) (p : Entry) :
    let r : Entry := l.foldl (ReferenceIdeal.reducer_argmax_f32_i32 (F := Ideal)) p
    r ∈ p :: l ∧ ∀ q ∈ p :: l, Dom r q := by
  induction l generalizing p with
  | nil => exact ⟨List.mem_singleton.mpr rfl, fun q h => List.mem_singleton.mp h ▸ Dom.refl _⟩
  | cons a l ih =>
    obtain ⟨hm, hd⟩ := ih (ReferenceIdeal.reducer_argmax_f32_i32 (F := Ideal) p a)
    obtain ⟨ho, hp, ha⟩ := step p a
    refine ⟨?_, fun q hq => ?_⟩
    · rcases List.mem_cons.mp hm with e | e
      · rw [List.foldl_cons, e]
        rcases ho with o | o
        · rw [o]; exact List.mem_cons_self ..
        · rw [o]; exact List.mem_cons_of_mem _ (List.mem_cons_self ..)
      · exact List.mem_cons_of_mem _ (List.mem_cons_of_mem _ e)
    · rcases List.mem_cons.mp hq with rfl | hq
      · exact (hd _ (List.mem_cons_self ..)).trans hp
      rcases List.mem_cons.mp hq with rfl | hq
      · exact (hd _ (List.mem_cons_self ..)).trans ha
      · exact hd _ (List.mem_cons_of_mem _ hq)

/-- The kernel's running choice. -/
noncomputable def running (s : Nat → EReal) : Nat → Entry
  | 0 => (s 0, 0#32)
  | c + 1 => if (running s c).1 < s (c + 1) then (s (c + 1), BitVec.ofNat 32 (c + 1)) else running s c

theorem toInt_small (c : Nat) (h : c < 16) : (BitVec.ofNat 32 c).toInt = (c : ℤ) := by
  have e : (BitVec.ofNat 32 c).toNat = c := by rw [BitVec.toNat_ofNat]; omega
  rw [BitVec.toInt_eq_toNat_of_lt (by omega), e]

/-- The running choice is one of the entries so far, as good as all of them. -/
theorem running_best (s : Nat → EReal) (c : Nat) (h : c < 16) :
    (∃ k ≤ c, running s c = (s k, BitVec.ofNat 32 k)) ∧ ∀ k ≤ c, Dom (running s c) (s k, BitVec.ofNat 32 k) := by
  induction c with
  | zero => exact ⟨⟨0, le_rfl, rfl⟩, fun k hk => by obtain rfl := Nat.le_zero.mp hk; exact Dom.refl _⟩
  | succ c ih =>
    obtain ⟨⟨k, hk, ek⟩, hd⟩ := ih (by omega)
    rw [running]
    split
    · next hlt =>
      refine ⟨⟨c + 1, le_rfl, rfl⟩, fun l hl => ?_⟩
      rcases Nat.lt_or_ge c l with hc | hc
      · rw [show l = c + 1 by omega]; exact Dom.refl _
      · exact Dom.trans (.inl hlt) (hd l hc)
    · next hlt =>
      refine ⟨⟨k, by omega, ek⟩, fun l hl => ?_⟩
      rcases Nat.lt_or_ge c l with hc | hc
      · rw [show l = c + 1 by omega]
        rcases lt_or_eq_of_le (not_lt.mp hlt) with e | e
        · exact .inl e
        · refine .inr ⟨e, ?_⟩
          rw [ek, toInt_small _ h, toInt_small _ (by omega)]
          exact_mod_cast (by omega : k ≤ c + 1)
      · exact hd l hc

/-- The reference's fold over the sixteen entries in any order, from the least score at place zero, ends at the place of the
    kernel's running choice. -/
theorem agree (s : Nat → EReal) (l : List Entry) (hl : ∀ p, p ∈ l ↔ ∃ k < 16, p = (s k, BitVec.ofNat 32 k)) :
    (l.foldl (ReferenceIdeal.reducer_argmax_f32_i32 (F := Ideal)) ((⊥ : EReal), 0#32) : Entry).2 = (running s 15).2 := by
  obtain ⟨hm, hd⟩ := fold l (⊥, 0#32)
  obtain ⟨⟨k, hk, ek⟩, hr⟩ := running_best s 15 (by decide)
  have least : Dom (s 0, BitVec.ofNat 32 0) (⊥, 0#32) := by
    rcases (bot_le : (⊥ : EReal) ≤ s 0).lt_or_eq with e | e
    · exact .inl e
    · exact .inr ⟨e, le_rfl⟩
  refine Dom.place (hd _ (List.mem_cons_of_mem _ ((hl _).mpr ⟨k, by omega, ek⟩))) ?_
  rcases List.mem_cons.mp hm with e | e
  · rw [e]; exact (hr 0 (by omega)).trans least
  · obtain ⟨c, hc, ec⟩ := (hl _).mp e
    rw [ec]; exact hr c (by omega)

end Cert.Choice
end
-- ==== Proof.Sampling.Uniform.lean ====
/- The uniform variable: the kernel sets a word's upper 23 bits as the fraction of a float between one and two and takes one
   away; the reference converts them to a float and scales it. Over the reals both are the same number. -/
module

public import Idealize.ShloMosaic.PureOps.Ideal
public import Idealize.ShloMosaic.PureOps.Ideal.Laws
public import Idealize.ShloMosaic.Lib.IdealHost

@[expose] public section

namespace Cert.Uniform

open Idealize.ShloMosaic

/-- A float whose sign and exponent are those of one, read off its fraction. -/
theorem between (v : BitVec 32) (n : Nat) (hn : n < 2 ^ 23) (hv : v.toNat = 127 * 2 ^ 23 + n) :
    Ideal.ofBits .f32 v = ((1 + n / 2 ^ 23 : ℝ) : EReal) := by
  have h1 : v.extractLsb' 31 1 = 0#1 := by
    apply BitVec.eq_of_toNat_eq
    rw [BitVec.extractLsb'_toNat, hv, Nat.shiftRight_eq_div_pow]
    norm_num at hn ⊢; omega
  have h2 : (v.extractLsb' 23 8).toNat = 127 := by
    rw [BitVec.extractLsb'_toNat, hv, Nat.shiftRight_eq_div_pow]
    norm_num at hn ⊢; omega
  have h3 : (v.extractLsb' 0 23).toNat = n := by
    rw [BitVec.extractLsb'_toNat, hv, Nat.shiftRight_eq_div_pow]
    norm_num at hn ⊢; omega
  simp only [Ideal.ofBits, Ideal.ieee, h2, h3, show (8 + 23) = 31 from rfl, h1]
  rw [if_neg (by decide), if_neg (by decide)]
  refine EReal.coe_eq_coe_iff.mpr ?_
  push_cast
  norm_num
  ring

/-- The reference's scale. -/
theorem scale : Ideal.ofBits .f32 0x34000000#32 = ((1 / 2 ^ 23 : ℝ) : EReal) := by
  simp [Ideal.ofBits, Ideal.ieee, -EReal.coe_mul]; norm_num

/-- The upper 23 bits of a word are a number below two to the 23. -/
theorem upper_lt (b : BitVec 32) : (b >>> 9#32).toNat < 2 ^ 23 := by
  have := b.isLt
  rw [BitVec.ushiftRight_eq', BitVec.toNat_ushiftRight, Nat.shiftRight_eq_div_pow]
  norm_num at this ⊢; omega

/-- The two programs' fractions are one number. -/
theorem fraction (b : BitVec 32) :
    Ideal.ofBits .f32 ((b >>> 9#32) ||| 1065353216#32) - Ideal.ofBits .f32 0x3F800000#32
      = (((b >>> 9#32).toInt : ℝ) : EReal) * Ideal.ofBits .f32 0x34000000#32 := by
  have hn := upper_lt b
  generalize b >>> 9#32 = w at hn ⊢
  have hv : (w ||| 1065353216#32).toNat = 127 * 2 ^ 23 + w.toNat := by
    rw [BitVec.toNat_or, Nat.or_comm, show (1065353216#32).toNat = 2 ^ 23 * 127 from rfl, ← Nat.two_pow_add_eq_or_of_lt hn]
    ring
  have hi : w.toInt = (w.toNat : ℤ) := BitVec.toInt_eq_toNat_of_lt (by norm_num at hn ⊢; omega)
  rw [between _ _ hn hv, scale, show Ideal.ofBits .f32 0x3F800000#32 = 1 from Ideal.ofBits_one_f32, hi, ← EReal.coe_one, ← EReal.coe_sub, ← EReal.coe_mul]
  congr 1
  push_cast
  ring

end Cert.Uniform
end
-- ==== Proof.Sampling.Sampled.lean ====
/- The reference's sample at a voxel: the place of the running choice over the channels' scores, each the logit less the
   logarithm that its random word makes. -/
module

public import proofs.«01_k».proof.Proof.Sampling.Counters
public import proofs.«01_k».proof.Proof.Sampling.Choice
public import proofs.«01_k».proof.Proof.Sampling.Uniform

@[expose] public section

noncomputable section

namespace Cert

open Idealize.ShloMosaic

/-- The logarithm that a random word makes: of minus the logarithm of the uniform variable. -/
def noise (w : BitVec 32) : EReal :=
  Ideal.log (Ideal.ofBits .f32 0x00000000#32 - Ideal.log (max (Ideal.ofBits .f32 ((w >>> 9#32) ||| 1065353216#32) - Ideal.ofBits .f32 0x3F800000#32)
    (Ideal.ofBits .f32 0x00800000#32)))

/-- The random word of an element: the exclusive or of the two hash words of its place. -/
def random (n : Nat) : BitVec 32 :=
  (Words.hash 2547012911 1371500959 (0, BitVec.ofNat 32 n)).1 ^^^ (Words.hash 2547012911 1371500959 (0, BitVec.ofNat 32 n)).2

/-- A channel's score at a voxel. -/
def valued (x : FVec Ideal ReferenceIdeal.S8x16x512x512 .f32) (b : Fin 8) (r c : Fin 512) (k : Nat) : EReal :=
  x (ix4 b ⟨k % 16, Nat.mod_lt _ (by decide)⟩ r c) - noise (random (4194304 * b.val + 8192 * r.val + 16 * c.val + k % 16))

namespace ReferenceIdeal.Draw

open Facts₀

-- The hash is compared by its arguments alone.
attribute [local irreducible] Words.hash words

theorem gumbel_at (p q : IVec S8x512x512x16 32) (i : S8x512x512x16.Idx) :
    gumbel (F := Ideal) p q i = - noise (p i ^^^ q i) := by
  change -(Ideal.log (-(Ideal.log (max ((((IntOp.shrui .host (p i ^^^ q i) 9#32).toInt : ℝ) : EReal) * Ideal.ofBits .f32 0x34000000#32)
    (Ideal.ofBits .f32 0x00800000#32))))) = _
  rw [IntOp.shrui, if_pos (by decide), BitVec.ushiftRight_eq', ← BitVec.ushiftRight_eq', ← Uniform.fraction, noise, Ideal.ofBits_zero_f32, zero_sub]

variable (x : FVec Ideal S8x16x512x512 .f32) (b : Fin 8) (r c : Fin 512)

theorem moved_at (k : Fin 16) : moved x (ix4 b r c k) = x (ix4 b k r c) := by
  unfold moved; pointwise

/-- The summed score of an element. -/
theorem entry (k : Fin 16) : addf (gumbel words.1 words.2) (moved x) (ix4 b r c k) = valued x b r c k.val := by
  change gumbel words.1 words.2 (ix4 b r c k) + moved x (ix4 b r c k) = _
  have e : (⟨k.val % 16, Nat.mod_lt _ (by decide)⟩ : Fin 16) = k := Fin.ext (Nat.mod_eq_of_lt k.isLt)
  rw [gumbel_at, words_at, moved_at, add_comm, ← sub_eq_add_neg, valued, e, Nat.mod_eq_of_lt k.isLt]
  rfl

/-- The entries along the last dimension. -/
theorem mem_fiber (v : FVec Ideal S8x512x512x16 .f32) (s : Nat → EReal) (hs : ∀ k : Fin 16, v (ix4 b r c k) = s k.val) (p : Choice.Entry) :
    p ∈ Host.argReduceFiber v (iotaInDim S8x512x512x16 32 3) reducesTo_S8x512x512x16_S8x512x512_d3 (ix3 b r c)
      ↔ ∃ k < 16, p = (s k, BitVec.ofNat 32 k) := by
  unfold Host.argReduceFiber
  rw [List.mem_map]
  constructor
  · rintro ⟨n, hn, rfl⟩
    obtain ⟨k, hk⟩ := (Shape.ReducesTo.fiber_r4_a3 _ _ _).mp (of_decide_eq_true (List.mem_filter.mp hn).2)
    refine ⟨k.val, k.isLt, ?_⟩
    rw [← hk]
    exact Prod.ext (hs k) rfl
  · rintro ⟨k, hk, rfl⟩
    refine ⟨S8x512x512x16.rowMajor (ix4 b r c ⟨k, hk⟩), List.mem_filter.mpr ⟨List.mem_finRange _, decide_eq_true ?_⟩, ?_⟩
    · rw [Equiv.symm_apply_apply]
      exact (Shape.ReducesTo.fiber_r4_a3 _ _ _).mpr ⟨⟨k, hk⟩, rfl⟩
    · rw [Equiv.symm_apply_apply]
      exact Prod.ext (hs ⟨k, hk⟩) rfl

theorem least : Ideal.ofBits .f32 0xFF800000#32 = ⊥ := by simp [Ideal.ofBits, Ideal.ieee]

/-- The place that the fold over a list of entries ends at. -/
@[irreducible] def ended (l : List Choice.Entry) : BitVec 32 :=
  (l.foldl (reducer_argmax_f32_i32 (F := Ideal)) (constant (F := Ideal) S_ .f32 0xFF800000#32 (Shape.Idx.first h_S_), constantI S_ 32 0 (Shape.Idx.first h_S_))).2

/-- The place of the greatest entry is what the fold over the entries ends at. -/
theorem place_ended (v : FVec Ideal S8x512x512x16 .f32) :
    place v = fun j => ended (Host.argReduceFiber v (iotaInDim S8x512x512x16 32 3) reducesTo_S8x512x512x16_S8x512x512_d3 j) := by
  delta place
  rw [Ideal.argReduce_eq_reduce2]
  simp only [Host.reduce2_eq_foldl_fiber, ended]

theorem ended_running (s : Nat → EReal) (l : List Choice.Entry) (hl : ∀ p, p ∈ l ↔ ∃ k < 16, p = (s k, BitVec.ofNat 32 k)) :
    ended l = (Choice.running s 15).2 := by
  rw [ended, show constant (F := Ideal) S_ .f32 0xFF800000#32 (Shape.Idx.first h_S_) = ⊥ from least]
  exact Choice.agree s l hl

/-- The place of the greatest entry is that of the running choice. -/
theorem place_at (v : FVec Ideal S8x512x512x16 .f32) (s : Nat → EReal) (hs : ∀ k : Fin 16, v (ix4 b r c k) = s k.val) :
    place v (ix3 b r c) = (Choice.running s 15).2 := by
  simp only [place_ended]
  exact ended_running s _ (mem_fiber b r c v s hs)

/-- The reference's sample at a voxel. -/
theorem sample_at : sample x (ix4 b 0 r c) = (Choice.running (valued x b r c) 15).2 := by
  rw [sample, shapeCast_apply _ _ _ (ix3 b r c) (by
    rw [Shape.rowMajor_val_three, Shape.rowMajor_val_four]
    change (b.val * 512 + r.val) * 512 + c.val = ((b.val * 1 + 0) * 512 + r.val) * 512 + c.val
    omega)]
  exact place_at b r c _ _ (entry x b r c)

end ReferenceIdeal.Draw
end Cert
end
-- ==== Proof.Sampling.Stored.lean ====
/- What the body stores is the running choice after the last channel. The printed payloads are cut at places of the
   printer's own choosing; each cut that carries a score or the running choice is named here once. -/
module

public import proofs.«01_k».proof.Proof.Sampling.Block

@[expose] public section

noncomputable section

namespace Cert.KernelIdeal.Block

open Cert.KernelIdeal Cert.KernelIdeal.Gen Idealize.ShloMosaic

variable {F : FTy → Type} [FloatOps F]
variable (i : grid0.Coords) (x : Vec F S1x16x128x512 .f32)
-- An operation on vectors is compared by its arguments alone: what it does at an index plays no part here.
attribute [local irreducible] addi xori ori shli shrui broadcast subf maximumf
  bitcastToFloat log shapeCast extractStridedSlice iota muli Scalar.addi Scalar.muli cmpf select

/-- The best score after channel 1, then after each further pair of channels. -/
theorem best_1 : k0_pay750 i x = (choice i x 1 (by decide)).2 := rfl
theorem score_2 : k0_pay758 i x = chan i x 2 (slice 2 (by decide)) := rfl
theorem best_3 : k0_pay769 i x = (choice i x 3 (by decide)).2 := by
  rw [k0_pay769, best_1, score_2]; rfl
theorem score_4 : k0_pay777 i x = chan i x 4 (slice 4 (by decide)) := rfl
theorem best_5 : k0_pay791 i x = (choice i x 5 (by decide)).2 := by
  rw [k0_pay791, best_3, score_4]; rfl
theorem score_6 : k0_pay801 i x = chan i x 6 (slice 6 (by decide)) := rfl
theorem best_7 : k0_pay814 i x = (choice i x 7 (by decide)).2 := by
  rw [k0_pay814, best_5, score_6]; rfl
theorem score_8 : k0_pay823 i x = chan i x 8 (slice 8 (by decide)) := rfl
theorem best_9 : k0_pay834 i x = (choice i x 9 (by decide)).2 := by
  rw [k0_pay834, best_7, score_8]; rfl
theorem score_10 : k0_pay841 i x = chan i x 10 (slice 10 (by decide)) := rfl
theorem best_11 : k0_pay854 i x = (choice i x 11 (by decide)).2 := by
  rw [k0_pay854, best_9, score_10]; rfl
theorem score_12 : k0_pay861 i x = chan i x 12 (slice 12 (by decide)) := rfl
theorem best_12 : k0_pay872 i x = (choice i x 12 (by decide)).2 := by
  rw [k0_pay872, best_11, score_12]; rfl
theorem score_13 : k0_pay871 i x = chan i x 13 (slice 13 (by decide)) := rfl
theorem best_13 : k0_pay646 (k0_pay871 i x) (k0_pay872 i x) = (choice i x 13 (by decide)).2 := by
  rw [score_13, best_12]; rfl

/-- The channel chosen after channel 1, then after each further pair of channels. -/
theorem idx_1 : k0_pay98 (k0_pay726 i x) (k0_pay736 i x) (k0_pay748 i x) (k0_pay749 i x) = (choice i x 1 (by decide)).1 := rfl
theorem idx_3 : k0_pay192 (k0_pay726 i x) (choice i x 1 (by decide)).1 (choice i x 1 (by decide)).2 (chan i x 2 (slice 2 (by decide))) (k0_pay767 i x) (k0_pay768 i x) = (choice i x 3 (by decide)).1 := rfl
theorem idx_5 : k0_pay289 (k0_pay726 i x) (choice i x 3 (by decide)).1 (choice i x 3 (by decide)).2 (chan i x 4 (slice 4 (by decide))) (k0_pay787 i x) (k0_pay788 i x) (k0_pay789 i x) (k0_pay790 i x) = (choice i x 5 (by decide)).1 := rfl
theorem idx_7 : k0_pay383 (k0_pay726 i x) (choice i x 5 (by decide)).1 (choice i x 5 (by decide)).2 (chan i x 6 (slice 6 (by decide))) (k0_pay812 i x) (k0_pay813 i x) = (choice i x 7 (by decide)).1 := rfl
theorem idx_9 : k0_pay472 (k0_pay726 i x) (choice i x 7 (by decide)).1 (choice i x 7 (by decide)).2 (chan i x 8 (slice 8 (by decide))) (k0_pay831 i x) (k0_pay832 i x) (k0_pay833 i x) = (choice i x 9 (by decide)).1 := rfl
theorem idx_11 : k0_pay559 (k0_pay726 i x) (choice i x 9 (by decide)).1 (choice i x 9 (by decide)).2 (chan i x 10 (slice 10 (by decide))) (k0_pay850 i x) (k0_pay851 i x) (k0_pay852 i x) (k0_pay853 i x) = (choice i x 11 (by decide)).1 := rfl
theorem idx_13 : k0_pay645 (chan i x 13 (slice 13 (by decide))) (k0_pay642 (choice i x 11 (by decide)).1 (choice i x 11 (by decide)).2 (chan i x 12 (slice 12 (by decide)))) (choice i x 12 (by decide)).2 = (choice i x 13 (by decide)).1 := rfl
theorem score_14 : k0_pay688 (k0_pay685 (k0_pay726 i x)) (k0_pay686 (F := F) (k0_pay683 (k0_pay876 i x) (k0_pay877 i x) (k0_pay878 i x)) (k0_pay684 (k0_pay876 i x) (k0_pay877 i x) (k0_pay878 i x))) (k0_pay687 (F := F)) = chan i x 14 (slice 14 (by decide)) := rfl

/-- What the body stores: the last running choice's channels, as a block of the result. -/
theorem stored : out0_1 i x = View.canon [⟨r0_1, shapeCast S1x1x128x512 (choice i x 15 (by decide)).1 shapeCasts_S128x512_S1x1x128x512⟩] := by
  rw [out0_1, best_13, score_14, idx_1, best_1, score_2, idx_3, best_3, score_4, idx_5, best_5, score_6, idx_7, best_7, score_8, idx_9, best_9, score_10, idx_11, best_11, score_12, score_13, best_12, idx_13]
  rfl

end Cert.KernelIdeal.Block
end
-- ==== Proof.Sampling.Picked.lean ====
/- The kernel's running choice at a voxel of a block: over the channels' scores, each the logit less the logarithm that its
   random word makes. -/
module

public import proofs.«01_k».proof.Proof.Sampling.Sampled
public import proofs.«01_k».proof.Proof.Sampling.Stored
public import Idealize.ShloMosaic.Lib.Pipeline.ValueKit

@[expose] public section

noncomputable section

namespace Cert.KernelIdeal.Block

open Cert.KernelIdeal Cert.KernelIdeal.Gen Idealize.ShloMosaic

variable (g : grid0.Coords) (x : Vec Ideal S1x16x128x512 .f32) (r : Fin 128) (c : Fin 512)

-- The hash is compared by its arguments alone.
attribute [local irreducible] Words.hash hash

/-- The place of the block's first element: its batch and its first row. -/
def start : Nat := 4194304 * (g 1).val + 8192 * (128 * (g 0).val)

/-- The counter of a voxel in a channel, with the key word added. -/
theorem counter_at (k : Nat) : addi voxel (splat (Scalar.addi (base g) (BitVec.ofNat 32 k))) (ix2 r c)
    = BitVec.ofNat 32 (start g + 8192 * r.val + 16 * c.val + k) + 1371500959#32 := by
  have h0 : iota .tc S128x512 32 [0] iota_S128x512_d0_w32 (ix2 r c) = BitVec.ofNat 32 r.val := iota_single_apply ..
  have h1 : iota .tc S128x512 32 [1] iota_S128x512_d1_w32 (ix2 r c) = BitVec.ofNat 32 c.val := iota_single_apply ..
  change (iota .tc S128x512 32 [0] iota_S128x512_d0_w32 (ix2 r c) * BitVec.ofNat 32 512 + iota .tc S128x512 32 [1] iota_S128x512_d1_w32 (ix2 r c))
    * BitVec.ofNat 32 16 + ((((BitVec.ofNat 32 (g 1).val * BitVec.ofNat 32 512) + BitVec.ofNat 32 128 * BitVec.ofNat 32 (g 0).val) * BitVec.ofNat 32 8192
      + BitVec.ofNat 32 1371500959) + BitVec.ofNat 32 k) = _ + BitVec.ofNat 32 1371500959
  rw [h0, h1]
  simp only [← BitVec.ofNat_mul, ← BitVec.ofNat_add]
  congr 1
  rw [start]
  ring

/-- The random word of a voxel in a channel. -/
theorem chanBits_at (k : Nat) : chanBits g k (ix2 r c) = random (start g + 8192 * r.val + 16 * c.val + k) := by
  have e := Words.hash_vox (ix2 r c) _ _ (counter_at g r c k)
  exact congrArg₂ (· ^^^ ·) (Prod.ext_iff.mp e).1 (Prod.ext_iff.mp e).2

/-- A score at a voxel. -/
theorem score_at (l : Floats Ideal) (b : Words) (i : S128x512.Idx) : score l b i = l i - noise (b i) := by
  change l i - Ideal.log (Ideal.ofBits .f32 0x00000000#32 - Ideal.log (max (Ideal.ofBits .f32 (IntOp.shrui .vector (b i) 9#32 ||| 1065353216#32)
    - Ideal.ofBits .f32 0x3F800000#32) (Ideal.ofBits .f32 0x00800000#32))) = _
  rw [IntOp.shrui, if_pos (by decide), noise]

/-- A logit at a voxel. -/
theorem logit_at (k : Nat) (hk : k < 16) : logit x k (slice k hk) (ix2 r c) = x (ix4 0 ⟨k, hk⟩ r c) := by
  unfold logit
  rw [View.ld_unit_zero (by decide)]
  rw [shapeCast_apply _ _ _ (ix3 0 r c) (by
    rw [Shape.rowMajor_val_three, Shape.rowMajor_val_two]
    change (0 * 128 + r.val) * 512 + c.val = r.val * 512 + c.val
    omega)]
  rw [extractStridedSlice_apply _ _ _ _ (ix3 ⟨k, hk⟩ r c) (by
    intro a
    fin_cases a
    · change k = k + 0; omega
    · change r.val = 0 + r.val; omega
    · change c.val = 0 + c.val; omega)]
  rw [shapeCast_apply _ _ _ (ix4 0 ⟨k, hk⟩ r c) (by
    rw [Shape.rowMajor_val_three, Shape.rowMajor_val_four]
    change ((0 * 16 + k) * 128 + r.val) * 512 + c.val = (k * 128 + r.val) * 512 + c.val
    omega)]

/-- A channel's score at a voxel. -/
theorem chan_at (k : Nat) (hk : k < 16) : chan g x k (slice k hk) (ix2 r c)
    = x (ix4 0 ⟨k, hk⟩ r c) - noise (random (start g + 8192 * r.val + 16 * c.val + k)) := by
  rw [chan, score_at, logit_at, chanBits_at]

/-- The running choice at a voxel. -/
theorem choice_at (i : S128x512.Idx) (s : Nat → EReal) (hs : ∀ k (hk : k < 16), chan g x k (slice k hk) i = s k) (k : Nat) (hk : k < 16) :
    ((choice g x k hk).2 i, (choice g x k hk).1 i) = Choice.running s k := by
  induction k with
  | zero => exact Prod.ext (hs 0 hk) rfl
  | succ k ih =>
    have e := ih (by omega)
    rw [Choice.running, ← e, ← hs (k + 1) hk]
    change (Scalar.select (BitVec.ofBool (decide ((choice g x k _).2 i < chan g x (k + 1) (slice (k + 1) hk) i))) _ _,
      Scalar.select (BitVec.ofBool (decide ((choice g x k _).2 i < chan g x (k + 1) (slice (k + 1) hk) i))) _ _) = _
    by_cases h : (choice g x k (by omega)).2 i < chan g x (k + 1) (slice (k + 1) hk) i
    · rw [if_pos h, decide_eq_true h]; rfl
    · rw [if_neg h, decide_eq_false h]; rfl

/-- What the body stores, at a voxel of its block. -/
theorem stored_at (s : Nat → EReal) (hs : ∀ k (hk : k < 16), x (ix4 0 ⟨k, hk⟩ r c) - noise (random (start g + 8192 * r.val + 16 * c.val + k)) = s k) :
    out0_1 g x (ix4 0 0 r c) = (Choice.running s 15).2 := by
  rw [stored, View.canon_unit_zero (by decide), shapeCast_apply _ _ _ (ix2 r c) (by
    rw [Shape.rowMajor_val_two, Shape.rowMajor_val_four]
    change r.val * 512 + c.val = ((0 * 1 + 0) * 128 + r.val) * 512 + c.val
    omega)]
  exact congrArg Prod.snd (choice_at g x (ix2 r c) s (fun k hk => (chan_at g x r c k hk).trans (hs k hk)) 15 (by decide))

end Cert.KernelIdeal.Block
end
-- ==== Proof.Sampling.Result.lean ====
/- The kernel's result array is the reference's sample of the logits: every voxel lies in one grid point's block, and there
   both are the running choice over the same scores. -/
module

public import proofs.«01_k».proof.Proof.Sampling.Picked
public import proofs.«01_k».proof.Proof.Gen.KernelIdeal.Value

@[expose] public section

noncomputable section

namespace Cert.KernelIdeal.Result

open Cert.KernelIdeal Cert.KernelIdeal.Gen Idealize.ShloMosaic Idealize.ShloMosaic.TcCoe

/-- Where each grid point's blocks lie: the batch, and the band of rows. -/
theorem block_in : ∀ t : Fin cfg0.N, win0_0.index t = ![(grid0.coords t 1).val, 0, (grid0.coords t 0).val, 0] :=
  (by decide +kernel : ∀ t : Fin grid0.N, win0_0.index t = ![(grid0.coords t 1).val, 0, (grid0.coords t 0).val, 0])

theorem block_out : ∀ t : Fin cfg0.N, win0_1.index t = ![(grid0.coords t 1).val, 0, (grid0.coords t 0).val, 0] :=
  (by decide +kernel : ∀ t : Fin grid0.N, win0_1.index t = ![(grid0.coords t 1).val, 0, (grid0.coords t 0).val, 0])

variable (m : (ℓ : Loc nD τ sig) → Buf (Elt Ideal) ℓ) (c : Dev nD) (t : Fin cfg0.N)

/-- The batch of a grid point's block. -/
def batch : Fin 8 := ⟨(grid0.coords t 1).val, (grid0.coords t 1).isLt⟩

/-- A row of its band among all the rows. -/
def row (r : Fin 128) : Fin 512 := ⟨(grid0.coords t 0).val * 128 + r.val, by
  have h : (grid0.coords t 0).val < 4 := (grid0.coords t 0).isLt
  omega⟩

/-- A logit of a grid point's block. -/
theorem logits (k : Fin 16) (r : Fin 128) (p : Fin 512) : (iblk m c 0 t : Vec Ideal S1x16x128x512 .f32) (ix4 0 k r p)
    = m ((c : Thread nD τ).loc main_arg0) (ix4 (batch t) k (row t r) p) := by
  change m ((c : Thread nD τ).loc main_arg0) (((cfg0.win 0).blk t).view.emb (ix4 0 k r p)) = _
  congr 1
  funext a
  apply Fin.ext
  match a with
  | ⟨0, _⟩ => change win0_0.index t 0 * 1 + 1 * 0 = (grid0.coords t 1).val; rw [block_in]; simp
  | ⟨1, _⟩ => change win0_0.index t 1 * 16 + 1 * k.val = k.val; rw [block_in]; simp
  | ⟨2, _⟩ => change win0_0.index t 2 * 128 + 1 * r.val = (grid0.coords t 0).val * 128 + r.val; rw [block_in]; simp
  | ⟨3, _⟩ => change win0_0.index t 3 * 512 + 1 * p.val = p.val; rw [block_in]; simp

/-- A voxel of a grid point's block among all the voxels. -/
theorem voxel (r : Fin 128) (p : Fin 512) : ((cfg0.win 1).blk t).view.emb (ix4 0 0 r p) = ix4 (batch t) 0 (row t r) p := by
  funext a
  apply Fin.ext
  match a with
  | ⟨0, _⟩ => change win0_1.index t 0 * 1 + 1 * 0 = (grid0.coords t 1).val; rw [block_out]; simp
  | ⟨1, _⟩ => change win0_1.index t 1 * 1 + 1 * 0 = 0; rw [block_out]; simp
  | ⟨2, _⟩ => change win0_1.index t 2 * 128 + 1 * r.val = (grid0.coords t 0).val * 128 + r.val; rw [block_out]; simp
  | ⟨3, _⟩ => change win0_1.index t 3 * 512 + 1 * p.val = p.val; rw [block_out]; simp

/-- A grid point's block of the result is the reference's sample there. -/
theorem block (r : Fin 128) (p : Fin 512) : out0_1 (grid0.coords t) (iblk m c 0 t) (ix4 0 0 r p)
    = ReferenceIdeal.Draw.sample (F := Ideal) (m ((c : Thread nD τ).loc main_arg0)) (ix4 (batch t) 0 (row t r) p) := by
  rw [ReferenceIdeal.Draw.sample_at]
  refine Block.stored_at _ _ r p _ fun k hk => ?_
  rw [logits m c t ⟨k, hk⟩ r p, valued]
  have e : (⟨k % 16, Nat.mod_lt _ (by decide)⟩ : Fin 16) = ⟨k, hk⟩ := Fin.ext (Nat.mod_eq_of_lt hk)
  have n : Block.start (grid0.coords t) + 8192 * r.val + 16 * p.val + k
      = 4194304 * (batch t).val + 8192 * (row t r).val + 16 * p.val + k % 16 := by
    rw [Nat.mod_eq_of_lt hk, Block.start, batch, row]
    ring
  rw [e, n]

-- The two arrays are compared by their arguments alone.
attribute [local irreducible] out0_1 ReferenceIdeal.Draw.sample

/-- The result array. -/
theorem final : (dats m 0 c).arrAt 1 cfg0.N = ReferenceIdeal.Draw.sample (F := Ideal) (m ((c : Thread nD τ).loc main_arg0)) := by
  refine (dats m 0 c).arrAt_eq_of_covers 1 _ (by decide +kernel) fun t _ y => ?_
  have y0 : (y 0).val < 1 := (y 0).isLt
  have y1 : (y 1).val < 1 := (y 1).isLt
  obtain ⟨r, p, rfl⟩ : ∃ (r : Fin 128) (p : Fin 512), y = (ix4 0 0 r p : S1x1x128x512.Idx) := by
    refine ⟨y 2, y 3, ?_⟩
    funext a
    apply Fin.ext
    match a with
    | ⟨0, _⟩ => change (y 0).val = 0; omega
    | ⟨1, _⟩ => change (y 1).val = 0; omega
    | ⟨2, _⟩ => rfl
    | ⟨3, _⟩ => rfl
  change (dats m 0 c).after 1 t (ix4 0 0 r p) = _
  refine Eq.trans ?_ (congrArg (ReferenceIdeal.Draw.sample (F := Ideal) (m ((c : Thread nD τ).loc main_arg0))) (voxel t r p).symm)
  rw [after0_1]
  exact block m c t r p

end Cert.KernelIdeal.Result
end
-- ==== Proof.lean ====
/- The proof of the claim: the kernel and its reading over the extended reals run and leave their argument and counters
   alone, so does the reference, and over the extended reals the kernel and the reference draw the same sample. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Sampling.Reads
public import proofs.«01_k».proof.Proof.Sampling.Result
public import Idealize.ShloMosaic.Adequacy
public import Idealize.ShloMosaic.Init

@[expose] public section

noncomputable section

namespace Cert.Proof

open Idealize.ShloMosaic Idealize.SL.Sem

/-- The reference runs and leaves its argument and the counters alone. -/
theorem reference : quiescent_ReferenceIdeal (hReferenceIdeal := Cert.ReferenceIdeal.Gen.facts) :=
  fun m g _ => (θ_run _ _ _).mono (fun _ h => ⟨fun c => (h.1 c).2, h.2⟩) (Cert.ReferenceIdeal.Reads.run m g)

/-- From the same logits the kernel and the reference draw the same sample. -/
theorem same : algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Draw.sample (F := Ideal) (m ((c.tc : Thread Cert.KernelIdeal.nD Cert.KernelIdeal.τ).loc Cert.KernelIdeal.main_arg0)), ?_, ?_⟩
  · exact (θ_run _ _ _).mono (fun _ h c => ⟨(h c).1.trans (Cert.KernelIdeal.Result.final m c), (h c).2⟩) (Cert.KernelIdeal.Value.run_blocks m g)
  · exact (θ_run _ _ _).mono (fun _ h c => ⟨(h.1 c).1.trans (congrArg _ (hm c)), (h.1 c).2⟩) (Cert.ReferenceIdeal.Reads.run m' g')

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference, trivial, same⟩

end Cert.Proof

end
